-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v4_0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v4_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S16384x1000 : Shape := ⟨2, ![16384, 1000]⟩
abbrev S_ : Shape := ⟨0, ![]⟩
abbrev S1000 : Shape := ⟨1, ![1000]⟩

class Facts : Prop where
  bcast_S_S16384x1000 : S_.BroadcastsInDim S16384x1000 (![] : Fin 0 → Fin S16384x1000.rank)
  reducesTo_S16384x1000_S_d0_1 : S16384x1000.ReducesTo [0, 1] S_
  h_S_ : 0 < S_.numel
  bcast_S_S1000 : S_.BroadcastsInDim S1000 (![] : Fin 0 → Fin S1000.rank)
  reducesTo_S1000_S_d0 : S1000.ReducesTo [0] S_

variable [Facts]

def fn {F : FTy → Type} [FloatOps F] (main_arg0 : FVec F S16384x1000 .f32) (main_arg1 : FVec F S16384x1000 .f32) (main_arg2 : FVec F S_ .f32) (main_arg3 : FVec F S1000 .f32) (main_arg4 : FVec F S1000 .f32) : IVec S_ 1 :=
  let main_v0 : FVec F S16384x1000 .f32 := Host.absf main_arg0
  let main_cst : FVec F S_ .f32 := constant S_ .f32 0x7F800000#32
  let main_v1 : FVec F S16384x1000 .f32 := broadcastInDim S16384x1000 ![] bcast_S_S16384x1000 main_cst
  let main_v2 : IVec S16384x1000 1 := cmpf .olt main_v0 main_v1
  let main_c : IVec S_ 1 := constantI S_ 1 1#1
  let main_v3 : IVec S_ 1 := (fun x v => Host.reduce IntOp.andi x v reducesTo_S16384x1000_S_d0_1 h_S_) main_v2 main_c
  let main_v4 : FVec F S16384x1000 .f32 := Host.absf main_arg1
  let main_cst_0 : FVec F S_ .f32 := constant S_ .f32 0x7F800000#32
  let main_v5 : FVec F S16384x1000 .f32 := broadcastInDim S16384x1000 ![] bcast_S_S16384x1000 main_cst_0
  let main_v6 : IVec S16384x1000 1 := cmpf .olt main_v4 main_v5
  let main_c_1 : IVec S_ 1 := constantI S_ 1 1#1
  let main_v7 : IVec S_ 1 := (fun x v => Host.reduce IntOp.andi x v reducesTo_S16384x1000_S_d0_1 h_S_) main_v6 main_c_1
  let main_v8 : IVec S_ 1 := andi main_v3 main_v7
  let main_cst_2 : FVec F S_ .f32 := constant S_ .f32 0x00000000#32
  let main_v9 : FVec F S1000 .f32 := broadcastInDim S1000 ![] bcast_S_S1000 main_cst_2
  let main_v10 : IVec S1000 1 := cmpf .oge main_arg3 main_v9
  let main_c_3 : IVec S_ 1 := constantI S_ 1 0#1
  let main_v11 : IVec S_ 1 := (fun x v => Host.reduce IntOp.ori x v reducesTo_S1000_S_d0 h_S_) main_v10 main_c_3
  let main_v12 : IVec S_ 1 := andi main_v8 main_v11
  main_v12
-- ==== Kernel.lean ====
abbrev S16384x1000 : Shape := ⟨2, ![16384, 1000]⟩
abbrev S_ : Shape := ⟨0, ![]⟩
abbrev S1000 : Shape := ⟨1, ![1000]⟩
abbrev S1000x16384 : Shape := ⟨2, ![1000, 16384]⟩
abbrev S1 : Shape := ⟨1, ![1]⟩
abbrev S16384 : Shape := ⟨1, ![16384]⟩
abbrev S1024 : Shape := ⟨1, ![1024]⟩
abbrev S1000x512 : Shape := ⟨2, ![1000, 512]⟩
abbrev S1000x1 : Shape := ⟨2, ![1000, 1]⟩
abbrev S1x1000 : Shape := ⟨2, ![1, 1000]⟩
abbrev S512 : Shape := ⟨1, ![512]⟩
abbrev S1x512 : Shape := ⟨2, ![1, 512]⟩
abbrev S512x1 : Shape := ⟨2, ![512, 1]⟩
abbrev S1x1 : Shape := ⟨2, ![1, 1]⟩
abbrev S24 : Shape := ⟨1, ![24]⟩
abbrev S16x16 : Shape := ⟨2, ![16, 16]⟩
abbrev S16 : Shape := ⟨1, ![16]⟩
abbrev S1x16 : Shape := ⟨2, ![1, 16]⟩

abbrev nBuf : Table → Nat
  | .hbm => 16
  | .local .tc .vmem => 17
  | .local .tc .smem => 2
  | .local .scVector .vmem => 6
  | _ => 0

abbrev bufTy : (tb : Table) → Fin (nBuf tb) → BufTy
  | .hbm, ⟨0, _⟩ => ⟨S16384x1000, .f32⟩
  | .hbm, ⟨1, _⟩ => ⟨S16384x1000, .f32⟩
  | .hbm, ⟨2, _⟩ => ⟨S_, .f32⟩
  | .hbm, ⟨3, _⟩ => ⟨S1000, .f32⟩
  | .hbm, ⟨4, _⟩ => ⟨S1000, .f32⟩
  | .hbm, ⟨5, _⟩ => ⟨S1000x16384, .f32⟩
  | .hbm, ⟨6, _⟩ => ⟨S1000x16384, .f32⟩
  | .hbm, ⟨7, _⟩ => ⟨S1, .f32⟩
  | .hbm, ⟨8, _⟩ => ⟨S16384, .f32⟩
  | .hbm, ⟨9, _⟩ => ⟨S16384, .i32⟩
  | .hbm, ⟨10, _⟩ => ⟨S16384, .f32⟩
  | .hbm, ⟨11, _⟩ => ⟨S1024, .f32⟩
  | .hbm, ⟨12, _⟩ => ⟨S16384, .f32⟩
  | .hbm, ⟨13, _⟩ => ⟨S16x16, .f32⟩
  | .hbm, ⟨14, _⟩ => ⟨S_, .f32⟩
  | .hbm, ⟨15, _⟩ => ⟨S_, .f32⟩
  | .local .tc .vmem, ⟨0, _⟩ => ⟨S1000, .f32⟩
  | .local .tc .vmem, ⟨1, _⟩ => ⟨S1000x512, .f32⟩
  | .local .tc .vmem, ⟨2, _⟩ => ⟨S1000x512, .f32⟩
  | .local .tc .vmem, ⟨3, _⟩ => ⟨S1000x512, .f32⟩
  | .local .tc .vmem, ⟨4, _⟩ => ⟨S1000x512, .f32⟩
  | .local .tc .vmem, ⟨5, _⟩ => ⟨S1000x512, .f32⟩
  | .local .tc .vmem, ⟨6, _⟩ => ⟨S1000x512, .f32⟩
  | .local .tc .vmem, ⟨7, _⟩ => ⟨S1000x512, .f32⟩
  | .local .tc .vmem, ⟨8, _⟩ => ⟨S1000x512, .f32⟩
  | .local .tc .vmem, ⟨9, _⟩ => ⟨S1024, .f32⟩
  | .local .tc .vmem, ⟨10, _⟩ => ⟨S1024, .f32⟩
  | .local .tc .vmem, ⟨11, _⟩ => ⟨S1024, .i32⟩
  | .local .tc .vmem, ⟨12, _⟩ => ⟨S1024, .i32⟩
  | .local .tc .vmem, ⟨13, _⟩ => ⟨S1024, .f32⟩
  | .local .tc .vmem, ⟨14, _⟩ => ⟨S1024, .f32⟩
  | .local .tc .vmem, ⟨15, _⟩ => ⟨S1024, .f32⟩
  | .local .tc .vmem, ⟨16, _⟩ => ⟨S1000x1, .f32⟩
  | .local .tc .smem, ⟨0, _⟩ => ⟨S1, .f32⟩
  | .local .tc .smem, ⟨1, _⟩ => ⟨S1, .f32⟩
  | .local .scVector .vmem, ⟨0, _⟩ => ⟨S1024, .i32⟩
  | .local .scVector .vmem, ⟨1, _⟩ => ⟨S1024, .f32⟩
  | .local .scVector .vmem, ⟨2, _⟩ => ⟨S1024, .f32⟩
  | .local .scVector .vmem, ⟨3, _⟩ => ⟨S1024, .f32⟩
  | .local .scVector .vmem, ⟨4, _⟩ => ⟨S1024, .f32⟩
  | .local .scVector .vmem, ⟨5, _⟩ => ⟨S16, .f32⟩
  | _, _ => ⟨S16384x1000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => false
  | ⟨18, _⟩ => false
  | ⟨19, _⟩ => false
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4_0 : Ref sig .tc := ⟨.hbm, 12, rfl⟩
abbrev main_v4_1 : Ref sig .tc := ⟨.hbm, 13, rfl⟩
abbrev main_cst : Ref sig .tc := ⟨.hbm, 14, rfl⟩
abbrev main_v5 : Ref sig .tc := ⟨.hbm, 15, rfl⟩
abbrev main_v3_1_scv : Ref sig .scVector := ⟨.hbm, 9, rfl⟩
abbrev main_v3_0_scv : Ref sig .scVector := ⟨.hbm, 8, rfl⟩
abbrev main_v3_2_scv : Ref sig .scVector := ⟨.hbm, 10, rfl⟩
abbrev main_v3_3_scv : Ref sig .scVector := ⟨.hbm, 11, rfl⟩
abbrev main_v4_0_scv : Ref sig .scVector := ⟨.hbm, 12, rfl⟩
abbrev main_v4_1_scv : Ref sig .scVector := ⟨.hbm, 13, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_scratch0 : Ref sig .tc := ⟨.vmem, 16, rfl⟩
abbrev cc0_stg0_0 : Ref sig .tc := ⟨.smem, 0, rfl⟩
abbrev cc0_scratch1 : Ref sig .tc := ⟨.smem, 1, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v111 : BitVec 1 := Scalar.cmpi .eq arg0 c15_i32
  let v112 : BitVec 32 := Scalar.extui v111
  let c0_i32_45 : BitVec 32 := 0#32
  let v113 : BitVec 1 := Scalar.cmpi .ne v112 c0_i32_45
  v113

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_6 (i : grid0.Coords) : Fin 1 → Nat :=
  let arg0 : BitVec 32 := BitVec.ofNat 32 (i 0).val
  let c0_i32 : BitVec 32 := 0#32
  ![arg0.toNat]

def cc0_transform_7 (i : grid0.Coords) : Fin 1 → Nat :=
  let arg0 : BitVec 32 := BitVec.ofNat 32 (i 0).val
  let c0_i32 : BitVec 32 := 0#32
  ![arg0.toNat]

def cc0_transform_8 (i : grid0.Coords) : Fin 1 → Nat :=
  let arg0 : BitVec 32 := BitVec.ofNat 32 (i 0).val
  let c0_i32 : BitVec 32 := 0#32
  ![arg0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨2, ![1, 16], ![false, false]⟩

def k1_off1 (i : grid1.Coords) : Fin 1 → Nat :=
  let arg1 : BitVec 32 := BitVec.ofNat 32 (i 1).val
  let c1024_i32 : BitVec 32 := 1024#32
  let v0 : BitVec 32 := Scalar.muli arg1 c1024_i32
  ![v0.toNat]
@[reducible] def k1_t1_loop : Scf.Loop 32 :=
  let c0_i32 : BitVec 32 := 0#32
  let c64_i32 : BitVec 32 := 64#32
  let v14 : BitVec 32 := Scalar.addi c0_i32 c64_i32
  let c1_i32 : BitVec 32 := 1#32
  ⟨c0_i32, v14, c1_i32⟩
def k1_off2 (k1_t1 : Fin k1_t1_loop.trips) : Fin 1 → Nat :=
  let c0_i32 : BitVec 32 := 0#32
  let c1_i32 : BitVec 32 := 1#32
  let arg15 : BitVec 32 := Scf.iv c0_i32 c1_i32 k1_t1
  let c16_i32 : BitVec 32 := 16#32
  let v19 : BitVec 32 := Scalar.muli arg15 c16_i32
  let v20 : Index := Scalar.indexCast v19
  ![v20.toNat]

def k1_chk1 (v21 : IVec S16 32) : Prop :=
  (∀ a x, ((![v21] : Fin 1 → IVec S16 32) a x).toNat < S1024.size a)
theorem k1_idx1_inb : ∀ (v21 : IVec S16 32) (k1_hw1 : k1_chk1 v21), ∀ a x, ((![v21] : Fin 1 → IVec S16 32) a x).toNat < S1024.size a := fun v21 k1_hw1 => k1_hw1
def k1_off3 (k1_t1 : Fin k1_t1_loop.trips) : Fin 1 → Nat :=
  let c0_i32 : BitVec 32 := 0#32
  let c1_i32 : BitVec 32 := 1#32
  let arg15 : BitVec 32 := Scf.iv c0_i32 c1_i32 k1_t1
  let c16_i32 : BitVec 32 := 16#32
  let v19 : BitVec 32 := Scalar.muli arg15 c16_i32
  let v23 : Index := Scalar.indexCast v19
  ![v23.toNat]
def k1_off4 (i : grid1.Coords) : Fin 2 → Nat :=
  let arg1 : BitVec 32 := BitVec.ofNat 32 (i 1).val
  let c0_i32_2_r1 : BitVec 32 := 0#32
  ![arg1.toNat, 0]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x1000 : Shape := ⟨2, ![16384, 1000]⟩
abbrev S_ : Shape := ⟨0, ![]⟩
abbrev S1000 : Shape := ⟨1, ![1000]⟩
abbrev S16384 : Shape := ⟨1, ![16384]⟩
abbrev S16384x1 : Shape := ⟨2, ![16384, 1]⟩
abbrev S16384x1x1 : Shape := ⟨3, ![16384, 1, 1]⟩
abbrev S1 : Shape := ⟨1, ![1]⟩
abbrev S1x1x1 : Shape := ⟨3, ![1, 1, 1]⟩

abbrev nBuf : Space → Nat
  | .hbm => 109
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S16384x1000, .f32⟩
  | .hbm, ⟨2, _⟩ => ⟨S_, .f32⟩
  | .hbm, ⟨3, _⟩ => ⟨S1000, .f32⟩
  | .hbm, ⟨4, _⟩ => ⟨S1000, .f32⟩
  | .hbm, ⟨5, _⟩ => ⟨S_, .f32⟩
  | .hbm, ⟨6, _⟩ => ⟨S16384, .f32⟩
  | .hbm, ⟨7, _⟩ => ⟨S_, .f32⟩
  | .hbm, ⟨8, _⟩ => ⟨S16384, .f32⟩
  | .hbm, ⟨9, _⟩ => ⟨S16384, .f32⟩
  | .hbm, ⟨10, _⟩ => ⟨S16384x1, .f32⟩
  | .hbm, ⟨11, _⟩ => ⟨S16384x1000, .f32⟩
  | .hbm, ⟨12, _⟩ => ⟨S16384x1000, .f32⟩
  | .hbm, ⟨13, _⟩ => ⟨S16384x1000, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S16384x1000, .f32⟩
  | .hbm, ⟨18, _⟩ => ⟨S16384x1000, .f32⟩
  | .hbm, ⟨19, _⟩ => ⟨S_, .f32⟩
  | .hbm, ⟨20, _⟩ => ⟨S16384, .f32⟩
  | .hbm, ⟨21, _⟩ => ⟨S16384x1000, .i32⟩
  | .hbm, ⟨22, _⟩ => ⟨S_, .f32⟩
  | .hbm, ⟨23, _⟩ => ⟨S_, .i32⟩
  | .hbm, ⟨24, _⟩ => ⟨S16384, .f32⟩
  | .hbm, ⟨25, _⟩ => ⟨S16384, .i32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S1000, .f32⟩
  | .hbm, ⟨37, _⟩ => ⟨S1000, .f32⟩
  | .hbm, ⟨38, _⟩ => ⟨S_, .f32⟩
  | .hbm, ⟨39, _⟩ => ⟨S1000, .f32⟩
  | .hbm, ⟨40, _⟩ => ⟨S_, .f32⟩
  | .hbm, ⟨41, _⟩ => ⟨S1000, .f32⟩
  | .hbm, ⟨42, _⟩ => ⟨S1000, .f32⟩
  | .hbm, ⟨43, _⟩ => ⟨S_, .f32⟩
  | .hbm, ⟨44, _⟩ => ⟨S1000, .f32⟩
  | .hbm, ⟨45, _⟩ => ⟨S1000, .f32⟩
  | .hbm, ⟨46, _⟩ => ⟨S1000, .f32⟩
  | .hbm, ⟨47, _⟩ => ⟨S_, .f32⟩
  | .hbm, ⟨48, _⟩ => ⟨S_, .f32⟩
  | .hbm, ⟨49, _⟩ => ⟨S1000, .f32⟩
  | .hbm, ⟨50, _⟩ => ⟨S1000, .f32⟩
  | .hbm, ⟨51, _⟩ => ⟨S_, .i32⟩
  | .hbm, ⟨52, _⟩ => ⟨S16384, .i32⟩
  | .hbm, ⟨53, _⟩ => ⟨S16384, .i1⟩
  | .hbm, ⟨54, _⟩ => ⟨S_, .i32⟩
  | .hbm, ⟨55, _⟩ => ⟨S16384, .i32⟩
  | .hbm, ⟨56, _⟩ => ⟨S16384, .i32⟩
  | .hbm, ⟨57, _⟩ => ⟨S16384, .i32⟩
  | .hbm, ⟨58, _⟩ => ⟨S16384x1, .i32⟩
  | .hbm, ⟨59, _⟩ => ⟨S16384, .f32⟩
  | .hbm, ⟨60, _⟩ => ⟨S16384, .f32⟩
  | .hbm, ⟨61, _⟩ => ⟨S16384, .f32⟩
  | .hbm, ⟨62, _⟩ => ⟨S16384, .i1⟩
  | .hbm, ⟨63, _⟩ => ⟨S16384, .f32⟩
  | .hbm, ⟨64, _⟩ => ⟨S_, .f32⟩
  | .hbm, ⟨65, _⟩ => ⟨S16384, .f32⟩
  | .hbm, ⟨66, _⟩ => ⟨S_, .f32⟩
  | .hbm, ⟨67, _⟩ => ⟨S16384, .f32⟩
  | .hbm, ⟨68, _⟩ => ⟨S16384, .f32⟩
  | .hbm, ⟨69, _⟩ => ⟨S16384x1, .f32⟩
  | .hbm, ⟨70, _⟩ => ⟨S16384x1000, .f32⟩
  | .hbm, ⟨71, _⟩ => ⟨S16384x1000, .f32⟩
  | .hbm, ⟨72, _⟩ => ⟨S16384x1000, .f32⟩
  | .hbm, ⟨73, _⟩ => ⟨S_, .f32⟩
  | .hbm, ⟨74, _⟩ => ⟨S16384, .f32⟩
  | .hbm, ⟨75, _⟩ => ⟨S16384x1, .f32⟩
  | .hbm, ⟨76, _⟩ => ⟨S16384x1, .f32⟩
  | .hbm, ⟨77, _⟩ => ⟨S16384x1000, .f32⟩
  | .hbm, ⟨78, _⟩ => ⟨S16384x1000, .f32⟩
  | .hbm, ⟨79, _⟩ => ⟨S16384x1, .i32⟩
  | .hbm, ⟨80, _⟩ => ⟨S_, .i32⟩
  | .hbm, ⟨81, _⟩ => ⟨S16384x1, .i32⟩
  | .hbm, ⟨82, _⟩ => ⟨S16384x1, .i1⟩
  | .hbm, ⟨83, _⟩ => ⟨S_, .i32⟩
  | .hbm, ⟨84, _⟩ => ⟨S16384x1, .i32⟩
  | .hbm, ⟨85, _⟩ => ⟨S16384x1, .i32⟩
  | .hbm, ⟨86, _⟩ => ⟨S16384x1, .i32⟩
  | .hbm, ⟨87, _⟩ => ⟨S16384x1x1, .i32⟩
  | .hbm, ⟨88, _⟩ => ⟨S1, .i32⟩
  | .hbm, ⟨89, _⟩ => ⟨S_, .i32⟩
  | .hbm, ⟨90, _⟩ => ⟨S16384x1x1, .i32⟩
  | .hbm, ⟨91, _⟩ => ⟨S16384x1x1, .i1⟩
  | .hbm, ⟨92, _⟩ => ⟨S1x1x1, .i32⟩
  | .hbm, ⟨93, _⟩ => ⟨S16384x1x1, .i32⟩
  | .hbm, ⟨94, _⟩ => ⟨S16384x1x1, .i1⟩
  | .hbm, ⟨95, _⟩ => ⟨S16384x1x1, .i1⟩
  | .hbm, ⟨96, _⟩ => ⟨S_, .i1⟩
  | .hbm, ⟨97, _⟩ => ⟨S16384x1, .i1⟩
  | .hbm, ⟨98, _⟩ => ⟨S16384x1, .f32⟩
  | .hbm, ⟨99, _⟩ => ⟨S_, .f32⟩
  | .hbm, ⟨100, _⟩ => ⟨S16384x1, .f32⟩
  | .hbm, ⟨101, _⟩ => ⟨S16384x1, .f32⟩
  | .hbm, ⟨102, _⟩ => ⟨S16384, .f32⟩
  | .hbm, ⟨103, _⟩ => ⟨S16384, .f32⟩
  | .hbm, ⟨104, _⟩ => ⟨S16384, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_cst_4 : Ref sig .tc := ⟨.hbm, 28, rfl⟩
abbrev main_v14 : Ref sig .tc := ⟨.hbm, 29, rfl⟩
abbrev main_cst_5 : Ref sig .tc := ⟨.hbm, 30, rfl⟩
abbrev main_v15 : Ref sig .tc := ⟨.hbm, 31, rfl⟩
abbrev main_cst_6 : Ref sig .tc := ⟨.hbm, 32, rfl⟩
abbrev main_v16 : Ref sig .tc := ⟨.hbm, 33, rfl⟩
abbrev main_v17 : Ref sig .tc := ⟨.hbm, 34, rfl⟩
abbrev main_cst_7 : Ref sig .tc := ⟨.hbm, 35, rfl⟩
abbrev main_v18 : Ref sig .tc := ⟨.hbm, 36, rfl⟩
abbrev main_v19 : Ref sig .tc := ⟨.hbm, 37, rfl⟩
abbrev main_cst_8 : Ref sig .tc := ⟨.hbm, 38, rfl⟩
abbrev main_v20 : Ref sig .tc := ⟨.hbm, 39, rfl⟩
abbrev main_cst_9 : Ref sig .tc := ⟨.hbm, 40, rfl⟩
abbrev main_v21 : Ref sig .tc := ⟨.hbm, 41, rfl⟩
abbrev main_v22 : Ref sig .tc := ⟨.hbm, 42, rfl⟩
abbrev main_cst_10 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_11 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c : Ref sig .tc := ⟨.hbm, 51, rfl⟩
abbrev main_v29 : Ref sig .tc := ⟨.hbm, 52, rfl⟩
abbrev main_v30 : Ref sig .tc := ⟨.hbm, 53, rfl⟩
abbrev main_c_12 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_call1_cst : Ref sig .tc := ⟨.hbm, 64, rfl⟩
abbrev main_call1_v0 : Ref sig .tc := ⟨.hbm, 65, rfl⟩
abbrev main_call1_cst_0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_v6 : Ref sig .tc := ⟨.hbm, 72, rfl⟩
abbrev main_call1_cst_1 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_v40 : Ref sig .tc := ⟨.hbm, 78, rfl⟩
abbrev main_v41 : Ref sig .tc := ⟨.hbm, 79, rfl⟩
abbrev main_call2_c : Ref sig .tc := ⟨.hbm, 80, rfl⟩
abbrev main_call2_v0 : Ref sig .tc := ⟨.hbm, 81, rfl⟩
abbrev main_call2_v1 : Ref sig .tc := ⟨.hbm, 82, rfl⟩
abbrev main_call2_c_0 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_c_1 : Ref sig .tc := ⟨.hbm, 88, rfl⟩
abbrev main_call2_c_2 : Ref sig .tc := ⟨.hbm, 89, rfl⟩
abbrev main_call2_v6 : Ref sig .tc := ⟨.hbm, 90, rfl⟩
abbrev main_call2_v7 : Ref sig .tc := ⟨.hbm, 91, rfl⟩
abbrev main_call2_v8 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_c_3 : Ref sig .tc := ⟨.hbm, 96, rfl⟩
abbrev main_call2_v12 : Ref sig .tc := ⟨.hbm, 97, rfl⟩
abbrev main_call2_v13 : Ref sig .tc := ⟨.hbm, 98, rfl⟩
abbrev main_call2_cst : Ref sig .tc := ⟨.hbm, 99, rfl⟩
abbrev main_call2_v14 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_cst_13 : Ref sig .tc := ⟨.hbm, 105, rfl⟩
abbrev main_v46 : Ref sig .tc := ⟨.hbm, 106, rfl⟩
abbrev main_cst_14 : Ref sig .tc := ⟨.hbm, 107, rfl⟩
abbrev main_v47 : Ref sig .tc := ⟨.hbm, 108, rfl⟩

abbrev nD : Nat := 1
abbrev τ : Topo := Topo.v7x

variable {F : FTy → Type} [FloatOps F]
-- ==== Proof.Setup.lean ====
/-
  The kernel program as the SparseCore launch theorem sees it, the resource algebra of the proof — the handshakes'
  rounds, the pipeline's rounds, the local transfers' counters — and the buffers of @main as locations of a device.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.FrameBody
public import Idealize.ShloMosaic.Lib.Pipeline.Kit
public import Idealize.ShloMosaic.Lib.Pipeline.Regions
public import Idealize.ShloMosaic.Lib.Ring
public import Idealize.ShloMosaic.Lib.Batch
public import Idealize.ShloMosaic.Lib.WritesUnit
public import Idealize.ShloMosaic.Lib.ValueIdxCore
public import Idealize.ShloMosaic.Lib.WordCmp
public import Idealize.ShloMosaic.Lib.Tactic
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Skeleton

@[expose] public section

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds. -/
def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
/-- The pipeline's rounds. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-! ## The buffers of @main -/

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev a4Loc (d : Dev nD) : Loc nD τ sig := (SparseCore.T d).loc main_arg4
abbrev wtLoc (d : Dev nD) : Loc nD τ sig := (SparseCore.T d).loc main_v0
abbrev stLoc (d : Dev nD) : Loc nD τ sig := (SparseCore.T d).loc main_v1
abbrev tauLoc (d : Dev nD) : Loc nD τ sig := (SparseCore.T d).loc main_v2
/-- The largest probability of every row, its place, the negated log-probability there, the thresholds. -/
abbrev mpLoc (d : Dev nD) : Loc nD τ sig := (SparseCore.T d).loc main_v3_0
abbrev ixLoc (d : Dev nD) : Loc nD τ sig := (SparseCore.T d).loc main_v3_1
abbrev nlLoc (d : Dev nD) : Loc nD τ sig := (SparseCore.T d).loc main_v3_2
abbrev tbLoc (d : Dev nD) : Loc nD τ sig := (SparseCore.T d).loc main_v3_3
/-- The mask and the partial losses. -/
abbrev mkLoc (d : Dev nD) : Loc nD τ sig := (SparseCore.T d).loc main_v4_0
abbrev paLoc (d : Dev nD) : Loc nD τ sig := (SparseCore.T d).loc main_v4_1
abbrev zrLoc (d : Dev nD) : Loc nD τ sig := (SparseCore.T d).loc main_cst
abbrev lsLoc (d : Dev nD) : Loc nD τ sig := (SparseCore.T d).loc main_v5

end Cert.Proof.KI

end
-- ==== Proof.Values.lean ====
/-
  What the kernel's buffers hold, in closed form over any float values: the TensorCore phase half by half over the
  columns of the transposed logits (thirty-two halves of 512 columns, two per grid point), its running column sums and
  its running sum of largest probabilities, the thresholds; then the SparseCore phase's mask and its partial losses.
-/
module

public import proofs.«01_k».proof.Proof.Setup

@[expose] public section

noncomputable section

namespace Cert.Proof.KI

open Cert.KernelIdeal Cert.KernelIdeal.Gen
open Idealize.ShloMosaic
open Idealize.ShloMosaic.ValueIdx (ix1 ix2)

variable {F : FTy → Type} [FloatOps F]

/-- Columns `512 n …` of a transposed array. -/
def wcol (X : Vec F S1000x16384 .f32) (n : ℕ) : Vec F S1000x512 .f32 := fun j =>
  X (ix2 (j 0) ⟨(512 * n + (j 1).val) % 16384, Nat.mod_lt _ (by decide)⟩)

/-- Two halves side by side. -/
def cat {e : EltTy} (a b : Vec F S512 e) : Vec F S1024 e := fun j =>
  if h : (j 0).val < 512 then a (ix1 ⟨(j 0).val, h⟩)
  else b (ix1 ⟨(j 0).val - 512, by have : (j 0).val < 1024 := (j 0).isLt; omega⟩)

/-- The thresholds and the zeros after them. -/
def catT (a : Vec F S1000 .f32) (b : Vec F S24 .f32) : Vec F S1024 .f32 := fun j =>
  if h : (j 0).val < 1000 then a (ix1 ⟨(j 0).val, h⟩)
  else b (ix1 ⟨(j 0).val - 1000, by have : (j 0).val < 1024 := (j 0).isLt; omega⟩)

/-- The negated log-probabilities of one half: of the second array `s` at the places of the first's largest entries. -/
def nllH (w s : Vec F S1000x512 .f32) : Vec F S512 .f32 :=
  k0_pay13 (k0_pay3 s) k0_pay4 (iota .tc S1000x512 32 [0] iota_S1000x512_d0_w32) (k0_pay6 w) (k0_pay11 s) (k0_pay12 s)

/-- The column sums after `n` halves. -/
def csAt (WT : Vec F S1000x16384 .f32) : ℕ → Vec F S1000x1 .f32
  | 0 => k0_pay1
  | n + 1 => k0_pay9 (wcol WT n) (csAt WT n)

/-- The sum of the largest probabilities after `t` grid points. -/
def msAt (WT : Vec F S1000x16384 .f32) : ℕ → F .f32
  | 0 => Scalar.ofBits .f32 0x00000000#32
  | t + 1 => k0_pay25 (k0_pay8 (wcol WT (2 * t))) (k0_pay8 (wcol WT (2 * t + 1))) (msAt WT t)

/-- The four blocks a grid point leaves. -/
def mpBlk (WT : Vec F S1000x16384 .f32) (t : ℕ) : Vec F S1024 .f32 :=
  cat (k0_pay8 (wcol WT (2 * t))) (k0_pay8 (wcol WT (2 * t + 1)))
def ixBlk (WT : Vec F S1000x16384 .f32) (t : ℕ) : Vec F S1024 .i32 :=
  cat (e := .i32) (k0_pay6 (wcol WT (2 * t))) (k0_pay6 (wcol WT (2 * t + 1)))
def nlBlk (WT ST : Vec F S1000x16384 .f32) (t : ℕ) : Vec F S1024 .f32 :=
  cat (nllH (wcol WT (2 * t)) (wcol ST (2 * t))) (nllH (wcol WT (2 * t + 1)) (wcol ST (2 * t + 1)))
def tblV (WT : Vec F S1000x16384 .f32) (P : Vec F S1000 .f32) (T : Vec F S1 .f32) : Vec F S1024 .f32 :=
  catT (k0_pay26 (csAt WT 32) P (T (ix1 0)) (msAt WT 16)) k0_pay27

/-- Block `n` of 1024 entries of an array of 16384. -/
def blk1024 {e : EltTy} (X : Vec F S16384 e) (n : ℕ) : Vec F S1024 e := fun j =>
  X (ix1 ⟨(1024 * n + (j 0).val) % 16384, Nat.mod_lt _ (by decide)⟩)

/-- An array of 16384 from its sixteen blocks. -/
def ofBlks {e : EltTy} (B : ℕ → Vec F S1024 e) : Vec F S16384 e := fun j =>
  B ((j 0).val / 1024) (ix1 ⟨(j 0).val % 1024, Nat.mod_lt _ (by decide)⟩)

/-! ## The SparseCore phase -/

/-- Lanes `16 k …` of a block. -/
def lane16 {e : EltTy} (X : Vec F S1024 e) (k : ℕ) : Vec F S16 e := fun j =>
  X (ix1 ⟨(16 * k + (j 0).val) % 1024, Nat.mod_lt _ (by decide)⟩)

/-- The thresholds at sixteen places. -/
def thr16 (tbl : Vec F S1024 .f32) (ix : Vec F S16 .i32) : Vec F S16 .f32 := fun j =>
  tbl (ix1 ⟨(ix j).toNat % 1024, Nat.mod_lt _ (by decide)⟩)

/-- The mask of one block. -/
def maskBlk (tbl : Vec F S1024 .f32) (ix : Vec F S1024 .i32) (mp : Vec F S1024 .f32) : Vec F S1024 .f32 := fun j =>
  k1_pay2 (thr16 tbl (lane16 ix ((j 0).val / 16))) (lane16 mp ((j 0).val / 16)) (ix1 ⟨(j 0).val % 16, Nat.mod_lt _ (by decide)⟩)

/-- The sixteen running sums of one block after `k` groups of sixteen. -/
def accAt (tbl : Vec F S1024 .f32) (ix : Vec F S1024 .i32) (mp nl : Vec F S1024 .f32) : ℕ → Vec F S16 .f32
  | 0 => k1_pay1
  | k + 1 => k1_pay3 (accAt tbl ix mp nl k) (thr16 tbl (lane16 ix k)) (lane16 mp k) (lane16 nl k)

end Cert.Proof.KI

end
-- ==== Proof.Tile.lean ====
/-
  One task of the SparseCore phase, at a symbolic pair of SparseCore and tile: its four copies in, the sixty-four
  groups of sixteen lanes, its two copies out; what it leaves in its block of the mask and in its row of the partials.
-/
module

public import proofs.«01_k».proof.Proof.Values
public import Idealize.ShloMosaic.Lib.VecWindow

@[expose] public section

noncomputable section

namespace Cert.Proof.KI

open Cert.KernelIdeal Cert.KernelIdeal.Gen
open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.ShloMosaic.ValueIdx (ix1 ix2)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

abbrev ixV : Memref sig .scVector .hbm S16384 .i32 := Memref.whole main_v3_1_scv
abbrev mpV : Memref sig .scVector .hbm S16384 .f32 := Memref.whole main_v3_0_scv
abbrev nlV : Memref sig .scVector .hbm S16384 .f32 := Memref.whole main_v3_2_scv
abbrev tbV : Memref sig .scVector .hbm S1024 .f32 := Memref.whole main_v3_3_scv
abbrev mkV : Memref sig .scVector .hbm S16384 .f32 := Memref.whole main_v4_0_scv
abbrev paV : Memref sig .scVector .hbm S16x16 .f32 := Memref.whole main_v4_1_scv
abbrev s0V : Memref sig .scVector .vmem S1024 .i32 := Memref.whole cc1_scratch0
abbrev s1V : Memref sig .scVector .vmem S1024 .f32 := Memref.whole cc1_scratch1
abbrev s2V : Memref sig .scVector .vmem S1024 .f32 := Memref.whole cc1_scratch2
abbrev s3V : Memref sig .scVector .vmem S1024 .f32 := Memref.whole cc1_scratch3
abbrev s4V : Memref sig .scVector .vmem S1024 .f32 := Memref.whole cc1_scratch4
abbrev s5V : Memref sig .scVector .vmem S16 .f32 := Memref.whole cc1_scratch5

/-! ## The sixteen blocks -/

theorem rdiv : 16 ∣ S16384.size 0 := ⟨1024, rfl⟩
theorem pdiv : 16 ∣ S16x16.size 0 := ⟨1, rfl⟩
abbrev row (i : Fin 16) : Rect S16384 := Rect.part (s := S16384) (a₀ := 0) rdiv i
abbrev prow (i : Fin 16) : Rect S16x16 := Rect.part (s := S16x16) (a₀ := 0) pdiv i
abbrev rowSet (i : Fin 16) : Finset S16384.Idx := (row i).set
abbrev prowSet (i : Fin 16) : Finset S16x16.Idx := (prow i).set

/-- Task `i`'s read share of the thresholds: the full share dealt to the sixteen. -/
abbrev tq (i : Fin 16) : PosShare TreeShare := Transfers.dealOf fullShare (Finset.univ : Finset (Fin 16)) i

section Tile

variable (d : Dev nD) (L : grid1.Coords)

abbrev cV (L : grid1.Coords) : Fin τ.nSC := (L 0).castLE hcore1
abbrev jV (L : grid1.Coords) : Fin τ.nSub := (L 1).castLE hsub1
theorem bound_one : grid1.bound 1 = 16 := rfl
abbrev jL (L : grid1.Coords) : Fin 16 := Fin.cast bound_one (L 1)

abbrev rowK (L : grid1.Coords) : Rect S16384 := Rect.unit (s := S16384) (k1_off1 L) S1024.size (k1_off1_inb L)
abbrev prowK (L : grid1.Coords) : Rect S16x16 := Rect.unit (s := S16x16) (k1_off4 L) S1x16.size (k1_off4_inb L)
/-- The task's blocks, as it addresses them. -/
abbrev ixK (L : grid1.Coords) : Memref sig .scVector .hbm S1024 .i32 := ixV.slice (rowK L) (fun _ => rfl)
abbrev mpK (L : grid1.Coords) : Memref sig .scVector .hbm S1024 .f32 := mpV.slice (rowK L) (fun _ => rfl)
abbrev nlK (L : grid1.Coords) : Memref sig .scVector .hbm S1024 .f32 := nlV.slice (rowK L) (fun _ => rfl)
abbrev mkK (L : grid1.Coords) : Memref sig .scVector .hbm S1024 .f32 := mkV.slice (rowK L) (fun _ => rfl)
abbrev paK (L : grid1.Coords) : Memref sig .scVector .hbm S16 .f32 := (paV.slice (prowK L) (fun _ => rfl)).squeeze S16 squeezes_S1x16_S16

theorem rowK_eq : rowK L = row (jL L) := by
  unfold rowK row Rect.part Rect.block
  congr 1 <;> funext a
  · rw [k1_off1_eq]
    match a with
    | 0 => simp [Shape.partIx, Shape.partSize, S16384, Nat.mul_comm]
  · match a with
    | 0 => simp [Shape.partSize, S16384, S1024]
theorem prowK_eq : prowK L = prow (jL L) := by
  unfold prowK prow Rect.part Rect.block
  congr 1 <;> funext a
  · rw [k1_off4_eq]
    match a with
    | 0 => simp [Shape.partIx, Shape.partSize, S16x16]
    | 1 => simp [Shape.partIx, Shape.partSize, S16x16]
  · match a with
    | 0 => simp [Shape.partSize, S16x16, S1x16]
    | 1 => simp [Shape.partSize, S16x16, S1x16]

theorem set_ixK : (ixK L).view.set = rowSet (jL L) := by
  show ((ixV).view.slice (rowK L)).set = _
  rw [rowK_eq]; exact View.set_slice_whole _ _
theorem set_mpK : (mpK L).view.set = rowSet (jL L) := by
  show ((mpV).view.slice (rowK L)).set = _
  rw [rowK_eq]; exact View.set_slice_whole _ _
theorem set_nlK : (nlK L).view.set = rowSet (jL L) := by
  show ((nlV).view.slice (rowK L)).set = _
  rw [rowK_eq]; exact View.set_slice_whole _ _
theorem set_mkK : (mkK L).view.set = rowSet (jL L) := by
  show ((mkV).view.slice (rowK L)).set = _
  rw [rowK_eq]; exact View.set_slice_whole _ _
theorem set_paK : (paK L).view.set = prowSet (jL L) := by
  show (((paV).view.slice (prowK L)).reshape S16 squeezes_S1x16_S16.numel_eq).set = _
  rw [View.set_reshape]; refine (View.set_slice_whole _ _).trans ?_
  exact congrArg (fun r : Rect S16x16 => r.set) (prowK_eq L)

variable [FloatOps F]

/-! ## The scratch buffers and cells -/

abbrev cAcell (d : Dev nD) (c : Fin τ.nSC) (i : Fin τ.nSub) : GSem nD τ sig := (V d c i, .dma cc1_scratch6.sem)
abbrev cBcell (d : Dev nD) (c : Fin τ.nSC) (i : Fin τ.nSub) : GSem nD τ sig := (V d c i, .dma cc1_scoped0.sem)
abbrev cCcell (d : Dev nD) (c : Fin τ.nSC) (i : Fin τ.nSub) : GSem nD τ sig := (V d c i, .dma cc1_scoped1.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc1_scratch6.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scoped0.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc1_scoped1.sem : SemLoc sig).isScoped .scVector = true; decide⟩⟩⟩)]

/-- A scratch buffer of the task's subcore, as the device names it. -/
abbrev scr (L : grid1.Coords) (b : Ref sig .scVector) : DevRef τ sig := (Proc.scVector (cV L) (jV L)).devRef b
/-- One of the task's own buffers, at some contents. -/
abbrev some1 (F : FTy → Type) (d : Dev nD) (b : DevRef τ sig) : sProp (MT nD τ sig (HIx 1) (Elt F) ℕ UU ℕ) :=
  iprop(∃ f, ((d, b) : Loc nD τ sig) ↦{fullShare} f)

omit [FloatOps F] in
theorem scr_ne {b b' : Ref sig .scVector} (h : b ≠ b') : scr L b ≠ scr L b' := fun e => h (Proc.devRef_injective _ e)
omit [FloatOps F] in
theorem scr_mem {b : Ref sig .scVector} (h : (scr L b).owner = .proc (Proc.scVector (cV L) (jV L))) :
    scr L b ∈ ownRefs (τ := τ) (sig := sig) (.scVector (cV L) (jV L)) := SparseCore.Cfg.mem_ownRefs_of_owner h

omit [FloatOps F] in
/-- The six scratch buffers are among the subcore's own: they are them, at some contents, and the rest. -/
theorem ownBufs_V :
    (ownBufs (V d (cV L) (jV L)) : sProp 𝕄)
      = iprop(some1 F d (scr L cc1_scratch0) ∗ some1 F d (scr L cc1_scratch1) ∗ some1 F d (scr L cc1_scratch2) ∗ some1 F d (scr L cc1_scratch3) ∗ some1 F d (scr L cc1_scratch4) ∗ some1 F d (scr L cc1_scratch5)
          ∗ bigSep (((((((ownRefs (τ := τ) (sig := sig) (.scVector (cV L) (jV L))).erase (scr L cc1_scratch0)).erase (scr L cc1_scratch1)).erase (scr L cc1_scratch2)).erase (scr L cc1_scratch3)).erase (scr L cc1_scratch4)).erase (scr L cc1_scratch5)) fun b => some1 F d b) := by
  unfold SparseCore.Cfg.ownBufs
  rw [SparseCore.bigSep_erase' (scr_mem L (b := cc1_scratch0) rfl),
    SparseCore.bigSep_erase' (Finset.mem_erase.mpr ⟨scr_ne L (show (cc1_scratch1 : Ref sig .scVector) ≠ cc1_scratch0 by decide), scr_mem L (b := cc1_scratch1) rfl⟩),
    SparseCore.bigSep_erase' (Finset.mem_erase.mpr ⟨scr_ne L (show (cc1_scratch2 : Ref sig .scVector) ≠ cc1_scratch1 by decide), Finset.mem_erase.mpr ⟨scr_ne L (show (cc1_scratch2 : Ref sig .scVector) ≠ cc1_scratch0 by decide), scr_mem L (b := cc1_scratch2) rfl⟩⟩),
    SparseCore.bigSep_erase' (Finset.mem_erase.mpr ⟨scr_ne L (show (cc1_scratch3 : Ref sig .scVector) ≠ cc1_scratch2 by decide), Finset.mem_erase.mpr ⟨scr_ne L (show (cc1_scratch3 : Ref sig .scVector) ≠ cc1_scratch1 by decide), Finset.mem_erase.mpr ⟨scr_ne L (show (cc1_scratch3 : Ref sig .scVector) ≠ cc1_scratch0 by decide), scr_mem L (b := cc1_scratch3) rfl⟩⟩⟩),
    SparseCore.bigSep_erase' (Finset.mem_erase.mpr ⟨scr_ne L (show (cc1_scratch4 : Ref sig .scVector) ≠ cc1_scratch3 by decide), Finset.mem_erase.mpr ⟨scr_ne L (show (cc1_scratch4 : Ref sig .scVector) ≠ cc1_scratch2 by decide), Finset.mem_erase.mpr ⟨scr_ne L (show (cc1_scratch4 : Ref sig .scVector) ≠ cc1_scratch1 by decide), Finset.mem_erase.mpr ⟨scr_ne L (show (cc1_scratch4 : Ref sig .scVector) ≠ cc1_scratch0 by decide), scr_mem L (b := cc1_scratch4) rfl⟩⟩⟩⟩),
    SparseCore.bigSep_erase' (Finset.mem_erase.mpr ⟨scr_ne L (show (cc1_scratch5 : Ref sig .scVector) ≠ cc1_scratch4 by decide), Finset.mem_erase.mpr ⟨scr_ne L (show (cc1_scratch5 : Ref sig .scVector) ≠ cc1_scratch3 by decide), Finset.mem_erase.mpr ⟨scr_ne L (show (cc1_scratch5 : Ref sig .scVector) ≠ cc1_scratch2 by decide), Finset.mem_erase.mpr ⟨scr_ne L (show (cc1_scratch5 : Ref sig .scVector) ≠ cc1_scratch1 by decide), Finset.mem_erase.mpr ⟨scr_ne L (show (cc1_scratch5 : Ref sig .scVector) ≠ cc1_scratch0 by decide), scr_mem L (b := cc1_scratch5) rfl⟩⟩⟩⟩⟩)]

omit [FloatOps F] in
theorem read_ixK (f : Vec F S16384 .i32) : (ixK L).view.read (Elt F) f = blk1024 (F := F) (e := .i32) f (L 1).val := by
  funext j
  have hj : (j 0).val < 1024 := (j 0).isLt
  have hL : (L 1).val < 16 := (L 1).isLt
  refine (View.read_apply _ _).trans ((cast_eq _ _).trans (congrArg f ?_))
  funext x
  obtain rfl : x = (0 : Fin 1) := Subsingleton.elim (α := Fin 1) _ _
  apply Fin.ext
  show (k1_off1 L) 0 + 1 * (j 0).val = (1024 * (L 1).val + (j 0).val) % 16384
  rw [k1_off1_eq]
  show 1024 * (L 1).val + 1 * (j 0).val = _
  omega

omit [FloatOps F] in
theorem read_mpK (f : Vec F S16384 .f32) : (mpK L).view.read (Elt F) f = blk1024 (F := F) (e := .f32) f (L 1).val := by
  funext j
  have hj : (j 0).val < 1024 := (j 0).isLt
  have hL : (L 1).val < 16 := (L 1).isLt
  refine (View.read_apply _ _).trans ((cast_eq _ _).trans (congrArg f ?_))
  funext x
  obtain rfl : x = (0 : Fin 1) := Subsingleton.elim (α := Fin 1) _ _
  apply Fin.ext
  show (k1_off1 L) 0 + 1 * (j 0).val = (1024 * (L 1).val + (j 0).val) % 16384
  rw [k1_off1_eq]
  show 1024 * (L 1).val + 1 * (j 0).val = _
  omega

omit [FloatOps F] in
theorem read_nlK (f : Vec F S16384 .f32) : (nlK L).view.read (Elt F) f = blk1024 (F := F) (e := .f32) f (L 1).val := by
  funext j
  have hj : (j 0).val < 1024 := (j 0).isLt
  have hL : (L 1).val < 16 := (L 1).isLt
  refine (View.read_apply _ _).trans ((cast_eq _ _).trans (congrArg f ?_))
  funext x
  obtain rfl : x = (0 : Fin 1) := Subsingleton.elim (α := Fin 1) _ _
  apply Fin.ext
  show (k1_off1 L) 0 + 1 * (j 0).val = (1024 * (L 1).val + (j 0).val) % 16384
  rw [k1_off1_eq]
  show 1024 * (L 1).val + 1 * (j 0).val = _
  omega

omit [FloatOps F] in
/-- A load of sixteen lanes of a whole scratch, at trip `k`. -/
theorem rd16 {e : EltTy} {sig' : RefSig} {κ : Kind} {sp : Space} (v : View sig' κ sp S1024 e) (f : v.ty.Contents (Elt F)) (B : Vec F S1024 e)
    (hB : v.read (Elt F) f = B) (k : Fin k1_t1_loop.trips) {off : Fin 1 → ℕ} (hoff : off = ![16 * k.val])
    (inb : ∀ a, off a + S16.size a ≤ S1024.size a) :
    v.readAt (Elt F) (Rect.unit (s := S1024) off S16.size inb).toLoadRect f = lane16 B k.val := by
  subst hoff hB
  funext j
  have hj : (j 0).val < 16 := (j 0).isLt
  have hk : k.val < 64 := k.isLt
  refine congrArg (v.read (Elt F) f) ?_
  funext x
  obtain rfl : x = 0 := Subsingleton.elim _ _
  apply Fin.ext
  show 16 * k.val + 1 * (j 0).val = (16 * k.val + (j 0).val) % 1024
  omega

/-- What the task holds before trip `k`: the four fetched scratches, the mask's first `16 k` lanes stored, the sums so far. -/
def tinv (B0 : Vec F S1024 .i32) (B1 B2 B3 : Vec F S1024 .f32) (k : ℕ) (acc : FVec F S16 .f32) : sProp 𝕄 :=
  iprop(((s0V).view.loc (V d (cV L) (jV L)) ↦{fullShare} B0) ∗ ((s1V).view.loc (V d (cV L) (jV L)) ↦{fullShare} B1)
    ∗ ((s2V).view.loc (V d (cV L) (jV L)) ↦{fullShare} B2) ∗ ((s3V).view.loc (V d (cV L) (jV L)) ↦{fullShare} B3)
    ∗ (∃ f : Vec F S1024 .f32, ⌜∀ j : S1024.Idx, (j 0).val < 16 * k → f j = maskBlk B3 B0 B1 j⌝ ∗ ((s4V).view.loc (V d (cV L) (jV L)) ↦{fullShare} f))
    ∗ ⌜acc = accAt B3 B0 B1 B2 k⌝)

theorem lane16_lt {B : Vec F S1024 .i32} (hB : ∀ j, (B j).toNat < 1024) (k : ℕ) : k1_chk1 (lane16 (F := F) (e := .i32) B k) := by
  intro a x
  obtain rfl : a = 0 := Subsingleton.elim _ _
  exact hB _

/-- The gather of the thresholds. -/
theorem idx_eq (B3 : Vec F S1024 .f32) (v : Vec F S16 .i32) (h : ∀ a x, ((![v] : Fin 1 → IVec S16 32) a x).toNat < S1024.size a) :
    loadIdx B3 ![v] h = thr16 (F := F) B3 v := by
  funext j
  refine congrArg B3 ?_
  funext x
  obtain rfl : x = 0 := Subsingleton.elim _ _
  exact Fin.ext (Nat.mod_eq_of_lt (h 0 j)).symm

set_option maxHeartbeats 4000000 in
/-- One trip. -/
theorem trip (B0 : Vec F S1024 .i32) (B1 B2 B3 : Vec F S1024 .f32) (hB : ∀ j, (B0 j).toNat < 1024) (k : Fin k1_t1_loop.trips) (acc : FVec F S16 .f32) :
    tinv d L B0 B1 B2 B3 k.val acc
      ⊢ (wp frame (wpE (defs₀ (F := F)) 𝒱₀ (V d (cV L) (jV L)) none) Set.univ
          (k1_t1_body L ixV (Memref.isWhole_whole _) mpV (Memref.isWhole_whole _) nlV (Memref.isWhole_whole _) tbV (Memref.isWhole_whole _)
            mkV (Memref.isWhole_whole _) paV (Memref.isWhole_whole _) s0V (Memref.isWhole_whole _) s1V (Memref.isWhole_whole _) s2V (Memref.isWhole_whole _)
            s3V (Memref.isWhole_whole _) s4V (Memref.isWhole_whole _) s5V (Memref.isWhole_whole _) cc1_scratch6 cc1_scoped0 cc1_scoped1 k acc)
          (tinv d L B0 B1 B2 B3 (k.val + 1)) : sProp 𝕄) := by
  unfold k1_t1_body tinv
  iintro ⟨H0, H1, H2, H3, ⟨%f, %hf, H4⟩, %hacc⟩
  have hv : (s0V).view.readAt (Elt F) (Rect.unit (s := S1024) (k1_off2 k) S16.size (k1_off2_inb k)).toLoadRect B0 = lane16 (F := F) (e := .i32) B0 k.val :=
    rd16 (s0V).view _ _ (View.read_whole _ _) k (k1_off2_eq k) (k1_off2_inb k)
  have hv1 : (s1V).view.readAt (Elt F) (Rect.unit (s := S1024) (k1_off3 k) S16.size (k1_off3_inb k)).toLoadRect B1 = lane16 (F := F) (e := .f32) B1 k.val :=
    rd16 (s1V).view _ _ (View.read_whole _ _) k (k1_off3_eq k) (k1_off3_inb k)
  have hv2 : (s2V).view.readAt (Elt F) (Rect.unit (s := S1024) (k1_off3 k) S16.size (k1_off3_inb k)).toLoadRect B2 = lane16 (F := F) (e := .f32) B2 k.val :=
    rd16 (s2V).view _ _ (View.read_whole _ _) k (k1_off3_eq k) (k1_off3_inb k)
  have hchk := lane16_lt hB k.val
  sl_exec (disch := exact hchk)
  iapply (SparseCore.wp_vectorLoadIdx 𝒱₀ (V d (cV L) (jV L)) none Set.univ (base := s3V) (S := Finset.univ) (q := fullShare) (Finset.subset_univ _)) $$ H3
  iintro H3
  sl_exec
  have hr : View.read (Elt F) ((s3V).access (Rect.whole S1024)) B3 = B3 := Memref.read_access_whole (Elt F) cc1_scratch3 B3
  have hg := (congrArg (fun z : Vec F S1024 .f32 => loadIdx z ![lane16 (F := F) (e := .i32) B0 k.val] hchk) hr).trans (idx_eq B3 _ hchk)
  rw [hg]
  sl_step
  isplitl [H0]; · iexact H0
  isplitl [H1]; · iexact H1
  isplitl [H2]; · iexact H2
  isplitl [H3]; · iexact H3
  isplitl [H4]
  · iexists _; isplitr; swap; · iexact H4
    ipureintro
    intro j hj
    have hk : k.val < 64 := k.isLt
    refine (show _ = View.read (Elt F) (s4V).view ((s4V).view.writes (Elt F) f _) j from (congrFun (View.read_whole (Val := Elt F) cc1_scratch4 _).symm j)).trans ((View.read_writes_cons_unit (s4V).view f _ _ [] j (k1_off3_eq k)).trans ?_)
    split
    · rename_i h
      obtain ⟨h1, h2⟩ := h 0
      have h1' : 16 * k.val ≤ (j 0).val := h1
      have h2' : (j 0).val < 16 * k.val + 16 := h2
      have e1 : (j 0).val / 16 = k.val := by omega
      have e2 : (ix1 ⟨(j 0).val % 16, Nat.mod_lt _ (by decide)⟩ : S16.Idx) = Rect.unitLocal j h := by
        funext a
        obtain rfl : a = (0 : Fin 1) := Subsingleton.elim (α := Fin 1) _ _
        apply Fin.ext
        show (j 0).val % 16 = (j 0).val - 16 * k.val
        omega
      unfold maskBlk
      rw [e1, e2]
    · rename_i h
      refine hf j ?_
      by_contra hc
      refine h fun a => ?_
      obtain rfl : a = (0 : Fin 1) := Subsingleton.elim (α := Fin 1) _ _
      exact ⟨show 16 * k.val ≤ (j 0).val by omega, show (j 0).val < 16 * k.val + 16 by omega⟩
  ipureintro
  rw [hacc]; rfl

variable (IX : Vec F S16384 .i32) (MP NL : Vec F S16384 .f32) (TB : Vec F S1024 .f32)

/-- What the sixteen tasks leave: the mask and the partial losses. -/
def maskA : Vec F S16384 .f32 := ofBlks fun n => maskBlk TB (blk1024 IX n) (blk1024 MP n)
def partA : Vec F S16x16 .f32 := fun j =>
  k1_pay4 (accAt TB (blk1024 IX (j 0).val) (blk1024 MP (j 0).val) (blk1024 NL (j 0).val) 64) (ix1 (j 1))

set_option maxHeartbeats 4000000 in
theorem trips64 : Scf.trips k1_t1_loop.lb k1_t1_loop.ub k1_t1_loop.st = 64 := by decide

/-- The task's block of the mask, once stored. -/
theorem mask_at (mk0 : Vec F S16384 .f32) (x : Vec F S1024 .f32)
    (hx : x = maskBlk TB (blk1024 (F := F) (e := .i32) IX (L 1).val) (blk1024 (F := F) (e := .f32) MP (L 1).val)) :
    ∀ i ∈ (mkK L).view.set, (mkK L).view.writes (Elt F) mk0 [⟨Rect.whole S1024, x⟩] i = maskA IX MP TB i := by
  intro i hi
  obtain ⟨j, -, rfl⟩ := Finset.mem_map.mp hi
  refine ((View.read_apply (v := (mkK L).view) (Val := Elt F) _ j).trans (cast_eq _ _)).symm.trans ((congrFun (View.read_writes_whole (mkK L).view mk0 x) j).trans ?_)
  have hj : (j 0).val < 1024 := (j 0).isLt
  have hv : ((mkK L).view.emb j 0).val = 1024 * (L 1).val + (j 0).val := by
    show (k1_off1 L) 0 + 1 * (j 0).val = _
    rw [k1_off1_eq]
    show 1024 * (L 1).val + 1 * (j 0).val = _
    omega
  unfold maskA ofBlks
  rw [hx]
  have e1 : ((mkK L).view.emb j 0).val / 1024 = (L 1).val := by omega
  have e2 : (ix1 ⟨((mkK L).view.emb j 0).val % 1024, Nat.mod_lt _ (by decide)⟩ : S1024.Idx) = j := by
    funext a
    obtain rfl : a = (0 : Fin 1) := Subsingleton.elim (α := Fin 1) _ _
    apply Fin.ext
    show ((mkK L).view.emb j 0).val % 1024 = (j 0).val
    omega
  rw [e1, e2]

/-- The task's row of the partial sums, once stored. -/
theorem part_at (pa0 : Vec F S16x16 .f32) (x : Vec F S16 .f32)
    (hx : x = k1_pay4 (accAt TB (blk1024 (F := F) (e := .i32) IX (L 1).val) (blk1024 (F := F) (e := .f32) MP (L 1).val) (blk1024 (F := F) (e := .f32) NL (L 1).val) 64)) :
    ∀ i ∈ (paK L).view.set, (paK L).view.writes (Elt F) pa0 [⟨Rect.whole S16, x⟩] i = partA IX MP NL TB i := by
  intro i hi
  obtain ⟨j, -, rfl⟩ := Finset.mem_map.mp hi
  refine ((View.read_apply (v := (paK L).view) (Val := Elt F) _ j).trans (cast_eq _ _)).symm.trans ((congrFun (View.read_writes_whole (paK L).view pa0 x) j).trans ?_)
  have hs : Shape.reshapeEquiv squeezes_S1x16_S16.numel_eq j = (ix2 (0 : Fin 1) (j 0) : S1x16.Idx) := by
    have := Shape.reshapeEquiv_cons_one (n := 1) (d := ![16]) squeezes_S1x16_S16.numel_eq j
    refine this.trans ?_
    funext a
    match a with
    | 0 => rfl
    | 1 => rfl
  have he : (paK L).view.emb j = (prowK L).emb ((ix2 (0 : Fin 1) (j 0) : S1x16.Idx)) := by
    rw [← hs]; rfl
  have e1 : ((paK L).view.emb j 0).val = (L 1).val := by
    rw [he]
    show (k1_off4 L) 0 + 1 * 0 = _
    rw [k1_off4_eq]; rfl
  have e2 : ((paK L).view.emb j 1).val = (j 0).val := by
    rw [he]
    show (k1_off4 L) 1 + 1 * (j 0).val = _
    rw [k1_off4_eq]
    show 0 + 1 * (j 0).val = _
    omega
  unfold partA
  rw [hx, e1]
  refine congrArg _ ?_
  funext a
  obtain rfl : a = (0 : Fin 1) := Subsingleton.elim (α := Fin 1) _ _
  exact Fin.ext e2.symm

theorem tile_body (hF : (K (F := F)).Facts) (hIX : ∀ j, (IX j).toNat < 1024) (mk0 : Vec F S16384 .f32) (pa0 : Vec F S16x16 .f32)
    (O : CellTallies nD τ sig (HIx 1)) (W : Waits sig (HIx 1)) (hO : ∀ g, O g none = 0) :
    iprop(levAts (K (F := F)).L (K (F := F)).lev ∗ emp
        ∗ ((ixLoc d ↦[rowSet (jL L)]{fullShare} IX) ∗ (mpLoc d ↦[rowSet (jL L)]{fullShare} MP) ∗ (nlLoc d ↦[rowSet (jL L)]{fullShare} NL)
          ∗ (tbLoc d ↦{tq (jL L)} TB) ∗ (mkLoc d ↦[rowSet (jL L)]{fullShare} mk0) ∗ (paLoc d ↦[prowSet (jL L)]{fullShare} pa0))
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc1__phase2_sc_body L ixV (Memref.isWhole_whole _) mpV (Memref.isWhole_whole _) nlV (Memref.isWhole_whole _) tbV (Memref.isWhole_whole _)
            mkV (Memref.isWhole_whole _) paV (Memref.isWhole_whole _) s0V (Memref.isWhole_whole _) s1V (Memref.isWhole_whole _) s2V (Memref.isWhole_whole _)
            s3V (Memref.isWhole_whole _) s4V (Memref.isWhole_whole _) s5V (Memref.isWhole_whole _) cc1_scratch6 cc1_scoped0 cc1_scoped1)
          fun _ => iprop(((ixLoc d ↦[rowSet (jL L)]{fullShare} IX) ∗ (mpLoc d ↦[rowSet (jL L)]{fullShare} MP) ∗ (nlLoc d ↦[rowSet (jL L)]{fullShare} NL)
              ∗ (tbLoc d ↦{tq (jL L)} TB) ∗ (mkLoc d ↦[rowSet (jL L)]{fullShare} maskA IX MP TB) ∗ (paLoc d ↦[prowSet (jL L)]{fullShare} partA IX MP NL TB))
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  simp only [cc1__phase2_sc_body_eq_skeleton]; unfold cc1__phase2_sc_body_skel
  rw [(K (F := F)).scopedBufs_V hF d (cV L) (jV L), SparseCore.Cfg.scopedSems0_V (Val := Elt F) d (cV L) (jV L), ownSems0_V, ownBufs_V]
  iintro ⟨#Hlv, -, ⟨Hix, Hmp, Hnl, Htb, Hmk, Hpa⟩, ⟨⟨%g0, H0⟩, ⟨%g1, H1⟩, ⟨%g2, H2⟩, ⟨%g3, H3⟩, ⟨%g4, H4⟩, ⟨%g5, H5⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hix' := (Entails.of_eq (show (ixLoc d ↦[rowSet (jL L)]{fullShare} IX : sProp 𝕄) = ((ixK L).view.loc (V d (cV L) (jV L)) ↦[(ixK L).view.set]{fullShare} IX) by rw [set_ixK])) $$ Hix
  ihave Hmp' := (Entails.of_eq (show (mpLoc d ↦[rowSet (jL L)]{fullShare} MP : sProp 𝕄) = ((mpK L).view.loc (V d (cV L) (jV L)) ↦[(mpK L).view.set]{fullShare} MP) by rw [set_mpK])) $$ Hmp
  ihave Hnl' := (Entails.of_eq (show (nlLoc d ↦[rowSet (jL L)]{fullShare} NL : sProp 𝕄) = ((nlK L).view.loc (V d (cV L) (jV L)) ↦[(nlK L).view.set]{fullShare} NL) by rw [set_nlK])) $$ Hnl
  ihave Htb' := (Entails.of_eq (show (tbLoc d ↦{tq (jL L)} TB : sProp 𝕄) = ((tbV).view.loc (V d (cV L) (jV L)) ↦{tq (jL L)} TB) from rfl)) $$ Htb
  ihave Hmk' := (Entails.of_eq (show (mkLoc d ↦[rowSet (jL L)]{fullShare} mk0 : sProp 𝕄) = ((mkK L).view.loc (V d (cV L) (jV L)) ↦[(mkK L).view.set]{fullShare} mk0) by rw [set_mkK])) $$ Hmk
  ihave Hpa' := (Entails.of_eq (show (paLoc d ↦[prowSet (jL L)]{fullShare} pa0 : sProp 𝕄) = ((paK L).view.loc (V d (cV L) (jV L)) ↦[(paK L).view.set]{fullShare} pa0) by rw [set_paK])) $$ Hpa
  ihave H0' := (show ((((d, scr L cc1_scratch0) : Loc nD τ sig) ↦{fullShare} g0 : sProp 𝕄)) ⊢ ((s0V).view.loc (V d (cV L) (jV L)) ↦{fullShare} g0) from .rfl) $$ H0
  ihave H1' := (show ((((d, scr L cc1_scratch1) : Loc nD τ sig) ↦{fullShare} g1 : sProp 𝕄)) ⊢ ((s1V).view.loc (V d (cV L) (jV L)) ↦{fullShare} g1) from .rfl) $$ H1
  ihave H2' := (show ((((d, scr L cc1_scratch2) : Loc nD τ sig) ↦{fullShare} g2 : sProp 𝕄)) ⊢ ((s2V).view.loc (V d (cV L) (jV L)) ↦{fullShare} g2) from .rfl) $$ H2
  ihave H3' := (show ((((d, scr L cc1_scratch3) : Loc nD τ sig) ↦{fullShare} g3 : sProp 𝕄)) ⊢ ((s3V).view.loc (V d (cV L) (jV L)) ↦{fullShare} g3) from .rfl) $$ H3
  ihave H4' := (show ((((d, scr L cc1_scratch4) : Loc nD τ sig) ↦{fullShare} g4 : sProp 𝕄)) ⊢ ((s4V).view.loc (V d (cV L) (jV L)) ↦{fullShare} g4) from .rfl) $$ H4
  ihave H5' := (show ((((d, scr L cc1_scratch5) : Loc nD τ sig) ↦{fullShare} g5 : sProp 𝕄)) ⊢ ((s5V).view.loc (V d (cV L) (jV L)) ↦{fullShare} g5) from .rfl) $$ H5
  have hb := Transfers.BatchOf.intro (c := V d (cV L) (jV L)) (.dma cc1_scratch6.sem) 4
  sl_exec
  have e0 : View.write (Elt F) (s0V).view g0 (tile_body.sl.dma0 L IX) Finset.univ = blk1024 (F := F) (e := .i32) IX (L 1).val := by
    rw [View.write_whole_univ]; exact read_ixK L IX
  have e1 : View.write (Elt F) (s1V).view g1 (tile_body.sl.dma1 L MP) Finset.univ = blk1024 (F := F) (e := .f32) MP (L 1).val := by
    rw [View.write_whole_univ]; exact read_mpK L MP
  have e2 : View.write (Elt F) (s2V).view g2 (tile_body.sl.dma2 L NL) Finset.univ = blk1024 (F := F) (e := .f32) NL (L 1).val := by
    rw [View.write_whole_univ]; exact read_nlK L NL
  have e3 : View.write (Elt F) (s3V).view g3 (tile_body.sl.dma3 TB) Finset.univ = TB := by
    rw [View.write_whole_univ]; rfl
  have hB0 : ∀ j, ((blk1024 (F := F) (e := .i32) IX (L 1).val) j).toNat < 1024 := fun j => hIX _
  ihave H0 := (Entails.of_eq (congrArg (fun z => ((s0V).view.loc (V d (cV L) (jV L)) ↦{fullShare} z : sProp 𝕄)) e0)) $$ H0'
  ihave H1 := (Entails.of_eq (congrArg (fun z => ((s1V).view.loc (V d (cV L) (jV L)) ↦{fullShare} z : sProp 𝕄)) e1)) $$ H1'
  ihave H2 := (Entails.of_eq (congrArg (fun z => ((s2V).view.loc (V d (cV L) (jV L)) ↦{fullShare} z : sProp 𝕄)) e2)) $$ H2'
  ihave H3 := (Entails.of_eq (congrArg (fun z => ((s3V).view.loc (V d (cV L) (jV L)) ↦{fullShare} z : sProp 𝕄)) e3)) $$ H3'
  sl_for (tinv d L (blk1024 (F := F) (e := .i32) IX (L 1).val) (blk1024 (F := F) (e := .f32) MP (L 1).val) (blk1024 (F := F) (e := .f32) NL (L 1).val) TB) $$ [H0 H1 H2 H3 H4']
  case region =>
    exact fun k acc => trip d L _ _ _ _ hB0 k acc
  · unfold tinv
    isplitl [H0]; · iexact H0
    isplitl [H1]; · iexact H1
    isplitl [H2]; · iexact H2
    isplitl [H3]; · iexact H3
    isplitl [H4']
    · iexists g4; isplitr; swap; · iexact H4'
      ipureintro; intro j hj; omega
    ipureintro; rfl
  unfold tinv
  iintro %acc ⟨H0, H1, H2, H3, ⟨%f, %hf, H4⟩, %hacc⟩
  sl_exec
  rw [trips64] at hf hacc
  have hm : tile_body.sl.dma2_1 f = maskBlk TB (blk1024 (F := F) (e := .i32) IX (L 1).val) (blk1024 (F := F) (e := .f32) MP (L 1).val) := by
    funext j
    exact hf j (j 0).isLt
  have hp : tile_body.sl.dma2_2 d L g5 acc = k1_pay4 (accAt TB (blk1024 (F := F) (e := .i32) IX (L 1).val) (blk1024 (F := F) (e := .f32) MP (L 1).val) (blk1024 (F := F) (e := .f32) NL (L 1).val) 64) := by
    rw [hacc]
    funext j
    delta tile_body.sl.dma2_2 tile_body.sl.H5'_1
    refine congrFun (View.read_writes_full (s5V).view g5 _ _ _) j
  sl_step
  isplitl [Hix' Hmp' Hnl' Htb' Hmk' Hpa']
  · isplitl [Hix']
    · iapply (Entails.of_eq (show ((ixK L).view.loc (V d (cV L) (jV L)) ↦[(ixK L).view.set]{fullShare} IX : sProp 𝕄) = (ixLoc d ↦[rowSet (jL L)]{fullShare} IX) by rw [set_ixK])) $$ Hix'
    isplitl [Hmp']
    · iapply (Entails.of_eq (show ((mpK L).view.loc (V d (cV L) (jV L)) ↦[(mpK L).view.set]{fullShare} MP : sProp 𝕄) = (mpLoc d ↦[rowSet (jL L)]{fullShare} MP) by rw [set_mpK])) $$ Hmp'
    isplitl [Hnl']
    · iapply (Entails.of_eq (show ((nlK L).view.loc (V d (cV L) (jV L)) ↦[(nlK L).view.set]{fullShare} NL : sProp 𝕄) = (nlLoc d ↦[rowSet (jL L)]{fullShare} NL) by rw [set_nlK])) $$ Hnl'
    isplitl [Htb']; · iexact Htb'
    isplitl [Hmk']
    · iapply (Entails.of_eq (show ((mkK L).view.loc (V d (cV L) (jV L)) ↦[(mkK L).view.set]{fullShare} (mkK L).view.writes (Elt F) mk0 [⟨Rect.whole S1024, tile_body.sl.dma2_1 f⟩] : sProp 𝕄)
          = (mkLoc d ↦[rowSet (jL L)]{fullShare} maskA IX MP TB) from (pointsTo_congr (mask_at L IX MP TB mk0 _ hm)).trans (by rw [set_mkK]))) $$ Hmk'
    · iapply (Entails.of_eq (show ((paK L).view.loc (V d (cV L) (jV L)) ↦[(paK L).view.set]{fullShare} (paK L).view.writes (Elt F) pa0 [⟨Rect.whole S16, tile_body.sl.dma2_2 d L g5 acc⟩] : sProp 𝕄)
          = (paLoc d ↦[prowSet (jL L)]{fullShare} partA IX MP NL TB) from (pointsTo_congr (part_at L IX MP NL TB pa0 _ hp)).trans (by rw [set_paK]))) $$ Hpa'
  isplitl [H0 H1 H2 H3 H4 H5' Hbufs]
  · isplitl [H0]; · iexists _; iexact H0
    isplitl [H1]; · iexists _; iexact H1
    isplitl [H2]; · iexists _; iexact H2
    isplitl [H3]; · iexists _; iexact H3
    isplitl [H4]; · iexists _; iexact H4
    isplitl [H5']; · iexists _; iexact H5'
    iexact Hbufs
  isplitl [HsemA HsemB HsemC Hsems]
  · isplitl [HsemA]; · iexact HsemA
    isplitl [HsemB]; · iexact HsemB
    isplitl [HsemC]; · iexact HsemC
    iexact Hsems
  iexists _
  isplitr; swap; · iexact HO
  ipureintro
  intro p hp
  simp only [Finset.mem_insert, Set.mem_insert_iff] at hp
  rcases hp with rfl | rfl | rfl | rfl | rfl | rfl | hp
  all_goals first | exact Or.inr rfl | exact Or.inl hp

end Tile

end Cert.Proof.KI

end
-- ==== Proof.Body.lean ====
/-
  The TensorCore body on whole staging buffers, at the first grid point, at a middle one and at the last: what it
  leaves in every buffer, in closed form over what it found.
-/
module

public import proofs.«01_k».proof.Proof.Values
public import Idealize.ShloMosaic.Lib.VecWindow

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.ShloMosaic.SparseCore.Cfg (HIx)
open Idealize.ShloMosaic.ValueIdx (ix1 ix2)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The first branch's condition: the grid point is the first. -/
abbrev condFirst (i : grid0.Coords) : Prop :=
  (Scalar.cmpi .ne (Scalar.extui (Scalar.cmpi .eq (BitVec.ofNat 32 (i 0).val) 0#32) : BitVec 32) 0#32) = 1#1

section Cat

theorem S1024_lt (j : S1024.Idx) : (j 0).val < 1024 := (j 0).isLt

theorem read_cat {e : EltTy} {sig' : RefSig} {κ : Kind} {sp : Space} (v : View sig' κ sp S1024 e) (f : v.ty.Contents (Elt F))
    (a : Vec F S512 e) (b : Vec F S512 e) :
    v.read (Elt F) (v.writes (Elt F) f [⟨Rect.unit (s := S1024) ![512] S512.size inb_S1024_S512_512, b⟩,
      ⟨Rect.unit (s := S1024) ![0] S512.size inb_S1024_S512_0, a⟩]) = cat a b := by
  funext j
  have hj := S1024_lt j
  refine (View.read_writes_cons_unit v f _ _ _ j rfl).trans ?_
  unfold cat
  by_cases h : (j 0).val < 512
  · rw [dif_pos h, dif_neg (fun hc => absurd (hc 0).1 (by show ¬512 ≤ (j 0).val; omega))]
    refine (View.read_writes_cons_unit v f _ _ _ j rfl).trans ?_
    rw [dif_pos (fun x => by
      obtain rfl : x = 0 := Subsingleton.elim _ _
      exact ⟨Nat.zero_le _, by show (j 0).val < 0 + 512; omega⟩)]
    exact congrArg a (funext fun x => by
      obtain rfl : x = 0 := Subsingleton.elim _ _
      exact Fin.ext (by show (j 0).val - 0 = (j 0).val; omega))
  · rw [dif_neg h, dif_pos (fun x => by
      obtain rfl : x = 0 := Subsingleton.elim _ _
      exact ⟨by show 512 ≤ (j 0).val; omega, by show (j 0).val < 512 + 512; omega⟩)]
    exact congrArg b (funext fun x => by
      obtain rfl : x = 0 := Subsingleton.elim _ _
      rfl)

theorem read_catT {sig' : RefSig} {κ : Kind} {sp : Space} (v : View sig' κ sp S1024 .f32) (f : v.ty.Contents (Elt F))
    (a : Vec F S1000 .f32) (b : Vec F S24 .f32) :
    v.read (Elt F) (v.writes (Elt F) f [⟨Rect.unit (s := S1024) ![1000] S24.size inb_S1024_S24_1000, b⟩,
      ⟨Rect.unit (s := S1024) ![0] S1000.size inb_S1024_S1000_0, a⟩]) = catT a b := by
  funext j
  have hj := S1024_lt j
  refine (View.read_writes_cons_unit v f _ _ _ j rfl).trans ?_
  unfold catT
  by_cases h : (j 0).val < 1000
  · rw [dif_pos h, dif_neg (fun hc => absurd (hc 0).1 (by show ¬1000 ≤ (j 0).val; omega))]
    refine (View.read_writes_cons_unit v f _ _ _ j rfl).trans ?_
    rw [dif_pos (fun x => by
      obtain rfl : x = 0 := Subsingleton.elim _ _
      exact ⟨Nat.zero_le _, by show (j 0).val < 0 + 1000; omega⟩)]
    exact congrArg a (funext fun x => by
      obtain rfl : x = 0 := Subsingleton.elim _ _
      exact Fin.ext (by show (j 0).val - 0 = (j 0).val; omega))
  · rw [dif_neg h, dif_pos (fun x => by
      obtain rfl : x = 0 := Subsingleton.elim _ _
      exact ⟨by show 1000 ≤ (j 0).val; omega, by show (j 0).val < 1000 + 24; omega⟩)]
    exact congrArg b (funext fun x => by
      obtain rfl : x = 0 := Subsingleton.elim _ _
      rfl)

/-- A load of a whole staging buffer reads its contents. -/
theorem rdW {sig' : RefSig} {κ : Kind} {sp : Space} {s : Shape} {e : EltTy} {m : Memref sig' κ sp s e} (hm : m.IsWhole) {off : Fin s.rank → ℕ}
    (inb : ∀ a, off a + s.size a ≤ s.size a) (w : Vec F s e) :
    m.view.readAt (Elt F) (Rect.unit off s.size inb).toLoadRect (hm.unread w) = w := by
  rw [View.readAt_full, hm.read_unread]

/-! The second half's pure operations are the first half's. -/

theorem pay18_eq : k0_pay18 (F := F) = k0_pay6 := rfl
theorem pay20_eq : k0_pay20 (F := F) = k0_pay8 := rfl
theorem pay21_eq : k0_pay21 (F := F) = k0_pay9 := rfl
theorem pay24_eq (wb sb : Vec F S1000x512 .f32) :
    k0_pay24 (k0_pay15 sb) k0_pay16 (iota .tc S1000x512 32 [0] iota_S1000x512_d0_w32) (k0_pay18 wb) (k0_pay22 sb) (k0_pay23 sb)
      = nllH wb sb := rfl

/-- The one place of a one-entry buffer. -/
theorem S1_eq (z : S1.Idx) : z = ix1 0 := by
  funext x
  obtain rfl : x = 0 := Subsingleton.elim _ _
  exact Subsingleton.elim (α := Fin 1) _ _

end Cat

section Run

variable (c : Dev nD) (i : grid0.Coords) (arg1 : Memref sig .tc .smem S1 .f32) (harg1 : arg1.IsWhole) (arg2 : Memref sig .tc .vmem S1000 .f32) (harg2 : arg2.IsWhole) (arg3 : Memref sig .tc .vmem S1000x512 .f32) (harg3 : arg3.IsWhole) (arg4 : Memref sig .tc .vmem S1000x512 .f32) (harg4 : arg4.IsWhole) (arg5 : Memref sig .tc .vmem S1000x512 .f32) (harg5 : arg5.IsWhole) (arg6 : Memref sig .tc .vmem S1000x512 .f32) (harg6 : arg6.IsWhole) (arg7 : Memref sig .tc .vmem S1024 .f32) (harg7 : arg7.IsWhole) (arg8 : Memref sig .tc .vmem S1024 .i32) (harg8 : arg8.IsWhole) (arg9 : Memref sig .tc .vmem S1024 .f32) (harg9 : arg9.IsWhole) (arg10 : Memref sig .tc .vmem S1024 .f32) (harg10 : arg10.IsWhole) (arg11 : Memref sig .tc .vmem S1000x1 .f32) (harg11 : arg11.IsWhole) (arg12 : Memref sig .tc .smem S1 .f32) (harg12 : arg12.IsWhole)
  (x0 : Vec F S1 .f32) (x1 : Vec F S1000 .f32) (wa sa wb sb : Vec F S1000x512 .f32)

set_option maxHeartbeats 1000000 in
/-- A middle point: the table's buffer is not touched. -/
theorem run_mid (hc0 : ¬condFirst i) (hc1 : ¬k0_cond2 i = 1#1) (xi9 : Vec F S1024 .f32) (xs0 : Vec F S1000x1 .f32) (xs1 : Vec F S1 .f32) :
    iprop(owns (c : Thread nD τ) arg1 fullShare x0 ∗ owns (c : Thread nD τ) arg2 fullShare x1 ∗ owns (c : Thread nD τ) arg3 fullShare wa
        ∗ owns (c : Thread nD τ) arg4 fullShare sa ∗ owns (c : Thread nD τ) arg5 fullShare wb ∗ owns (c : Thread nD τ) arg6 fullShare sb
        ∗ (∃ d, owns (c : Thread nD τ) arg7 fullShare d) ∗ (∃ d, owns (c : Thread nD τ) arg8 fullShare d) ∗ (∃ d, owns (c : Thread nD τ) arg9 fullShare d)
        ∗ owns (c : Thread nD τ) arg10 fullShare xi9 ∗ owns (c : Thread nD τ) arg11 fullShare xs0 ∗ owns (c : Thread nD τ) arg12 fullShare xs1)
      ⊢ (wp frame (wpE (defs₀ (F := F)) Variants.none c none) Set.univ
          (cc0__phase1_body i arg1 harg1 arg2 harg2 arg3 harg3 arg4 harg4 arg5 harg5 arg6 harg6 arg7 harg7 arg8 harg8 arg9 harg9 arg10 harg10 arg11 harg11 arg12 harg12)
          fun _ => iprop(owns (c : Thread nD τ) arg1 fullShare x0 ∗ owns (c : Thread nD τ) arg2 fullShare x1 ∗ owns (c : Thread nD τ) arg3 fullShare wa
            ∗ owns (c : Thread nD τ) arg4 fullShare sa ∗ owns (c : Thread nD τ) arg5 fullShare wb ∗ owns (c : Thread nD τ) arg6 fullShare sb
            ∗ owns (c : Thread nD τ) arg7 fullShare (cat (k0_pay8 wa) (k0_pay8 wb))
            ∗ owns (c : Thread nD τ) arg8 fullShare (cat (F := F) (e := .i32) (k0_pay6 wa) (k0_pay6 wb))
            ∗ owns (c : Thread nD τ) arg9 fullShare (cat (nllH wa sa) (nllH wb sb))
            ∗ owns (c : Thread nD τ) arg10 fullShare xi9
            ∗ owns (c : Thread nD τ) arg11 fullShare (k0_pay9 wb (k0_pay9 wa xs0))
            ∗ owns (c : Thread nD τ) arg12 fullShare (fun _ => k0_pay25 (k0_pay8 wa) (k0_pay8 wb) (xs1 (ix1 0)))) : sProp 𝕄) := by
  simp only [cc0__phase1_body_eq_skeleton]; unfold cc0__phase1_body_skel
  simp only [k0_part3_eq_skeleton, k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%fs0, %hfs0, HS0⟩, ⟨%fs1, %hfs1, HS1⟩⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  obtain rfl := harg10.eq_unread hf9; obtain rfl := harg11.eq_unread hfs0; obtain rfl := harg12.eq_unread hfs1
  sl_exec (disch := first | sl_exact hc0 | sl_exact hc1)
  sl_step
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro
    refine (read_cat _ _ _ _).trans ?_
    delta run_mid.sl.r_2 run_mid.sl.r_8
    rw [rdW harg3, rdW harg5, pay20_eq]
  isplitl [H7]
  · iexists _; isplitr; swap; · iexact H7
    ipureintro
    refine (read_cat _ _ _ _).trans ?_
    delta run_mid.sl.r_1 run_mid.sl.r_7
    rw [rdW harg3, rdW harg5, pay18_eq]
  isplitl [H8]
  · iexists _; isplitr; swap; · iexact H8
    ipureintro
    refine (read_cat _ _ _ _).trans ?_
    delta run_mid.sl.r run_mid.sl.r_1 run_mid.sl.r_3 run_mid.sl.r_4 run_mid.sl.r_6 run_mid.sl.r_7 run_mid.sl.r_9 run_mid.sl.r_10 run_mid.sl.r_5 run_mid.sl.v10
    rw [rdW harg3, rdW harg5, rdW harg4, rdW harg6, pay24_eq]
    rfl
  isplitl [H9]
  · iexists _; isplitr; · ipureintro; exact harg10.read_unread _
    iexact H9
  isplitl [HS0]
  · iexists _; isplitr; swap; · iexact HS0
    ipureintro
    refine (View.read_writes_full _ _ _ _ _).trans ?_
    delta run_mid.sl.v68 run_mid.sl.HS0_1
    rw [View.readCov_full, rdW harg3, rdW harg5, rdW harg11, pay21_eq]
  iexists _; isplitr; swap; · iexact HS1
  ipureintro
  refine (View.read_writes_full _ _ _ _ _).trans ?_
  funext z
  delta run_mid.sl.r_2 run_mid.sl.r_8 run_mid.sl.r_11
  rw [rdW harg3, rdW harg5, rdW harg12, pay20_eq]
  exact congrArg (fun z => k0_pay25 (k0_pay8 wa) (k0_pay8 wb) (xs1 z)) (S1_eq _)

set_option maxHeartbeats 1000000 in
/-- The first point: the running sums start at zero, whatever was there. -/
theorem run_first (hc0 : condFirst i) (hc1 : ¬k0_cond2 i = 1#1) (xi9 : Vec F S1024 .f32) :
    iprop(owns (c : Thread nD τ) arg1 fullShare x0 ∗ owns (c : Thread nD τ) arg2 fullShare x1 ∗ owns (c : Thread nD τ) arg3 fullShare wa
        ∗ owns (c : Thread nD τ) arg4 fullShare sa ∗ owns (c : Thread nD τ) arg5 fullShare wb ∗ owns (c : Thread nD τ) arg6 fullShare sb
        ∗ (∃ d, owns (c : Thread nD τ) arg7 fullShare d) ∗ (∃ d, owns (c : Thread nD τ) arg8 fullShare d) ∗ (∃ d, owns (c : Thread nD τ) arg9 fullShare d)
        ∗ owns (c : Thread nD τ) arg10 fullShare xi9 ∗ (∃ d, owns (c : Thread nD τ) arg11 fullShare d) ∗ (∃ d, owns (c : Thread nD τ) arg12 fullShare d))
      ⊢ (wp frame (wpE (defs₀ (F := F)) Variants.none c none) Set.univ
          (cc0__phase1_body i arg1 harg1 arg2 harg2 arg3 harg3 arg4 harg4 arg5 harg5 arg6 harg6 arg7 harg7 arg8 harg8 arg9 harg9 arg10 harg10 arg11 harg11 arg12 harg12)
          fun _ => iprop(owns (c : Thread nD τ) arg1 fullShare x0 ∗ owns (c : Thread nD τ) arg2 fullShare x1 ∗ owns (c : Thread nD τ) arg3 fullShare wa
            ∗ owns (c : Thread nD τ) arg4 fullShare sa ∗ owns (c : Thread nD τ) arg5 fullShare wb ∗ owns (c : Thread nD τ) arg6 fullShare sb
            ∗ owns (c : Thread nD τ) arg7 fullShare (cat (k0_pay8 wa) (k0_pay8 wb))
            ∗ owns (c : Thread nD τ) arg8 fullShare (cat (F := F) (e := .i32) (k0_pay6 wa) (k0_pay6 wb))
            ∗ owns (c : Thread nD τ) arg9 fullShare (cat (nllH wa sa) (nllH wb sb))
            ∗ owns (c : Thread nD τ) arg10 fullShare xi9
            ∗ owns (c : Thread nD τ) arg11 fullShare (k0_pay9 wb (k0_pay9 wa k0_pay1))
            ∗ owns (c : Thread nD τ) arg12 fullShare (fun _ => k0_pay25 (k0_pay8 wa) (k0_pay8 wb) (Scalar.ofBits .f32 0x00000000#32))) : sProp 𝕄) := by
  simp only [cc0__phase1_body_eq_skeleton]; unfold cc0__phase1_body_skel
  simp only [k0_part3_eq_skeleton, k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%ds0, %fs0, -, HS0⟩, ⟨%ds1, %fs1, -, HS1⟩⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  obtain rfl := harg10.eq_unread hf9
  sl_exec (disch := first | sl_exact hc0 | sl_exact hc1)
  sl_step
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro
    refine (read_cat _ _ _ _).trans ?_
    delta run_first.sl.r_3 run_first.sl.r_9
    rw [rdW harg3, rdW harg5, pay20_eq]
  isplitl [H7]
  · iexists _; isplitr; swap; · iexact H7
    ipureintro
    refine (read_cat _ _ _ _).trans ?_
    delta run_first.sl.r_2 run_first.sl.r_8
    rw [rdW harg3, rdW harg5, pay18_eq]
  isplitl [H8]
  · iexists _; isplitr; swap; · iexact H8
    ipureintro
    refine (read_cat _ _ _ _).trans ?_
    delta run_first.sl.r_1 run_first.sl.r_2 run_first.sl.r_4 run_first.sl.r_5 run_first.sl.r_7 run_first.sl.r_8 run_first.sl.r_10 run_first.sl.r_11 run_first.sl.r_6 run_first.sl.v10
    rw [rdW harg3, rdW harg5, rdW harg4, rdW harg6, pay24_eq]
    rfl
  isplitl [H9]
  · iexists _; isplitr; · ipureintro; exact harg10.read_unread _
    iexact H9
  isplitl [HS0]
  · iexists _; isplitr; swap; · iexact HS0
    ipureintro
    refine (View.read_writes_full _ _ _ _ _).trans ?_
    delta run_first.sl.v68 run_first.sl.HS0_2
    rw [View.readCov_full, rdW harg3, rdW harg5, pay21_eq]
    delta run_first.sl.v23 run_first.sl.HS0_1
    rw [View.readCov_full]
  iexists _; isplitr; swap; · iexact HS1
  ipureintro
  refine (View.read_writes_full _ _ _ _ _).trans ?_
  funext z
  delta run_first.sl.r_3 run_first.sl.r_9
  rw [rdW harg3, rdW harg5, pay20_eq]
  rfl

set_option maxHeartbeats 1000000 in
/-- The last point: the thresholds are stored too. -/
theorem run_last (hc0 : ¬condFirst i) (hc1 : k0_cond2 i = 1#1) (xs0 : Vec F S1000x1 .f32) (xs1 : Vec F S1 .f32) :
    iprop(owns (c : Thread nD τ) arg1 fullShare x0 ∗ owns (c : Thread nD τ) arg2 fullShare x1 ∗ owns (c : Thread nD τ) arg3 fullShare wa
        ∗ owns (c : Thread nD τ) arg4 fullShare sa ∗ owns (c : Thread nD τ) arg5 fullShare wb ∗ owns (c : Thread nD τ) arg6 fullShare sb
        ∗ (∃ d, owns (c : Thread nD τ) arg7 fullShare d) ∗ (∃ d, owns (c : Thread nD τ) arg8 fullShare d) ∗ (∃ d, owns (c : Thread nD τ) arg9 fullShare d)
        ∗ (∃ d, owns (c : Thread nD τ) arg10 fullShare d) ∗ owns (c : Thread nD τ) arg11 fullShare xs0 ∗ owns (c : Thread nD τ) arg12 fullShare xs1)
      ⊢ (wp frame (wpE (defs₀ (F := F)) Variants.none c none) Set.univ
          (cc0__phase1_body i arg1 harg1 arg2 harg2 arg3 harg3 arg4 harg4 arg5 harg5 arg6 harg6 arg7 harg7 arg8 harg8 arg9 harg9 arg10 harg10 arg11 harg11 arg12 harg12)
          fun _ => iprop(owns (c : Thread nD τ) arg1 fullShare x0 ∗ owns (c : Thread nD τ) arg2 fullShare x1 ∗ owns (c : Thread nD τ) arg3 fullShare wa
            ∗ owns (c : Thread nD τ) arg4 fullShare sa ∗ owns (c : Thread nD τ) arg5 fullShare wb ∗ owns (c : Thread nD τ) arg6 fullShare sb
            ∗ owns (c : Thread nD τ) arg7 fullShare (cat (k0_pay8 wa) (k0_pay8 wb))
            ∗ owns (c : Thread nD τ) arg8 fullShare (cat (F := F) (e := .i32) (k0_pay6 wa) (k0_pay6 wb))
            ∗ owns (c : Thread nD τ) arg9 fullShare (cat (nllH wa sa) (nllH wb sb))
            ∗ owns (c : Thread nD τ) arg10 fullShare (catT (k0_pay26 (k0_pay9 wb (k0_pay9 wa xs0)) x1 (x0 (ix1 0)) (k0_pay25 (k0_pay8 wa) (k0_pay8 wb) (xs1 (ix1 0)))) k0_pay27)
            ∗ owns (c : Thread nD τ) arg11 fullShare (k0_pay9 wb (k0_pay9 wa xs0))
            ∗ owns (c : Thread nD τ) arg12 fullShare (fun _ => k0_pay25 (k0_pay8 wa) (k0_pay8 wb) (xs1 (ix1 0)))) : sProp 𝕄) := by
  simp only [cc0__phase1_body_eq_skeleton]; unfold cc0__phase1_body_skel
  simp only [k0_part3_eq_skeleton, k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%fs0, %hfs0, HS0⟩, ⟨%fs1, %hfs1, HS1⟩⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  obtain rfl := harg11.eq_unread hfs0; obtain rfl := harg12.eq_unread hfs1
  sl_exec (disch := first | sl_exact hc0 | sl_exact hc1)
  sl_step
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro
    refine (read_cat _ _ _ _).trans ?_
    delta run_last.sl.r_2 run_last.sl.r_8
    rw [rdW harg3, rdW harg5, pay20_eq]
  isplitl [H7]
  · iexists _; isplitr; swap; · iexact H7
    ipureintro
    refine (read_cat _ _ _ _).trans ?_
    delta run_last.sl.r_1 run_last.sl.r_7
    rw [rdW harg3, rdW harg5, pay18_eq]
  isplitl [H8]
  · iexists _; isplitr; swap; · iexact H8
    ipureintro
    refine (read_cat _ _ _ _).trans ?_
    delta run_last.sl.r run_last.sl.r_1 run_last.sl.r_3 run_last.sl.r_4 run_last.sl.r_6 run_last.sl.r_7 run_last.sl.r_9 run_last.sl.r_10 run_last.sl.r_5 run_last.sl.v10
    rw [rdW harg3, rdW harg5, rdW harg4, rdW harg6, pay24_eq]
    rfl
  isplitl [H9]
  · iexists _; isplitr; swap; · iexact H9
    ipureintro
    refine (read_catT _ _ _ _).trans ?_
    delta run_last.sl.v114 run_last.sl.r_12 run_last.sl.r_13
    delta run_last.sl.r_2 run_last.sl.r_8 run_last.sl.r_11 run_last.sl.HS0_2
    rw [View.readCov_full]
    delta run_last.sl.v68 run_last.sl.HS0_1
    rw [View.readCov_full, rdW harg3, rdW harg5, rdW harg11, rdW harg2, rdW harg12, rdW harg1, pay21_eq, pay20_eq]
    rw [S1_eq (Shape.Idx.first _)]
  isplitl [HS0]
  · iexists _; isplitr; swap; · iexact HS0
    ipureintro
    refine (View.read_writes_full _ _ _ _ _).trans ?_
    delta run_last.sl.v68 run_last.sl.HS0_1
    rw [View.readCov_full, rdW harg3, rdW harg5, rdW harg11, pay21_eq]
  iexists _; isplitr; swap; · iexact HS1
  ipureintro
  refine (View.read_writes_full _ _ _ _ _).trans ?_
  funext z
  delta run_last.sl.r_2 run_last.sl.r_8 run_last.sl.r_11
  rw [rdW harg3, rdW harg5, rdW harg12, pay20_eq]
  exact congrArg (fun z => k0_pay25 (k0_pay8 wa) (k0_pay8 wb) (xs1 z)) (S1_eq _)

end Run

end Cert.Proof.KI

end
-- ==== Proof.RegionDat.lean ====
/-
  The TensorCore phase as the pipeline runs it: what each window's buffer holds after every grid point, the carried
  column sums and sum of largest probabilities, and the body's obligation at a generic point.
-/
module

public import proofs.«01_k».proof.Proof.Body
public import Idealize.ShloMosaic.Lib.Pipeline.ValueKit
public import Idealize.ShloMosaic.Lib.Pipeline.FrameBody

@[expose] public section

noncomputable section

namespace Cert.Proof.KI

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.ShloMosaic.ValueIdx (ix1 ix2)
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- What the buffers of @main hold where the region is entered. -/
abbrev Vals (F : FTy → Type) : Type := (c : Dev nD) → (b : Ref sig .tc) → Buf (Elt F) ((c : Thread nD τ).loc b)

variable (B : Vals F)

abbrev WTof (c : Dev nD) : Vec F S1000x16384 .f32 := B c main_v0
abbrev STof (c : Dev nD) : Vec F S1000x16384 .f32 := B c main_v1
abbrev TAof (c : Dev nD) : Vec F S1 .f32 := B c main_v2
abbrev PTof (c : Dev nD) : Vec F S1000 .f32 := B c main_arg3

abbrev sc0 : Memref sig .tc .vmem S1000x1 .f32 := Memref.whole cc0_scratch0
abbrev sc1 : Memref sig .tc .smem S1 .f32 := Memref.whole cc0_scratch1

/-- The carried scratch before point `n`. -/
def PhiR (c : Dev nD) : (n : ℕ) → n ≤ cfg0.N → sProp 𝕄
  | 0, _ => iprop((∃ d, owns (c : Thread nD τ) sc0 fullShare d) ∗ (∃ d, owns (c : Thread nD τ) sc1 fullShare d))
  | n + 1, _ => iprop(owns (c : Thread nD τ) sc0 fullShare (csAt (WTof B c) (2 * (n + 1))) ∗ owns (c : Thread nD τ) sc1 fullShare (fun _ => msAt (WTof B c) (n + 1)))

theorem PhiR_zero (c : Dev nD) (n : ℕ) (h : n ≤ cfg0.N) (hz : n = 0) :
    PhiR B c n h = iprop((∃ d, owns (c : Thread nD τ) sc0 fullShare d) ∗ (∃ d, owns (c : Thread nD τ) sc1 fullShare d)) := by
  subst hz; rfl
theorem PhiR_succ (c : Dev nD) (n : ℕ) (h : n + 1 ≤ cfg0.N) :
    PhiR B c (n + 1) h = iprop(owns (c : Thread nD τ) sc0 fullShare (csAt (WTof B c) (2 * (n + 1))) ∗ owns (c : Thread nD τ) sc1 fullShare (fun _ => msAt (WTof B c) (n + 1))) := rfl
theorem PhiR_pos (c : Dev nD) (n : ℕ) (h : n ≤ cfg0.N) (hz : n ≠ 0) :
    PhiR B c n h = iprop(owns (c : Thread nD τ) sc0 fullShare (csAt (WTof B c) (2 * n)) ∗ owns (c : Thread nD τ) sc1 fullShare (fun _ => msAt (WTof B c) n)) := by
  cases n with
  | zero => exact absurd rfl hz
  | succ n => rfl

/-- Window `w`'s block at point `t`, of the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (B c (Pipeline.arrRef spec0 w))

/-- The proof data: inputs stay at their blocks; the four outputs; the carried scratch; the calls still owed throughout. -/
def dats (_ : Fin 1) (c : Dev nD) : Dat τ (Elt F) (HIx 1) ℕ UU ℕ cfg0 c where
  A w := B c (Pipeline.arrRef spec0 w)
  after w t := match w with
    | ⟨0, _⟩ => iblk B c 0 t
    | ⟨1, _⟩ => iblk B c 1 t
    | ⟨2, _⟩ => iblk B c 2 t
    | ⟨3, _⟩ => iblk B c 3 t
    | ⟨4, _⟩ => iblk B c 4 t
    | ⟨5, _⟩ => iblk B c 5 t
    | ⟨6, _⟩ => mpBlk (WTof B c) t.val
    | ⟨7, _⟩ => ixBlk (WTof B c) t.val
    | ⟨8, _⟩ => nlBlk (WTof B c) (STof B c) t.val
    | ⟨9, _⟩ => tblV (WTof B c) (PTof B c) (TAof B c)
  Φ t := PhiR B c t.val (Nat.le_of_lt_succ t.isLt)
  q w := Pipeline.shareOf spec0 w
  owed _ := (K (F := F)).Otc c 0
  recorded _ := {p | (K (F := F)).lev ((c : Thread nD τ), p.1) p.2 ≤ 0}

theorem A_eq (c : Dev nD) (w : Fin cfg0.W) : (dats B 0 c).A w = B c (Pipeline.arrRef spec0 w) := by
  dsimp only [dats]
theorem PhiR_castSucc (c : Dev nD) (t : Fin cfg0.N) : (dats B 0 c).Φ t.castSucc = PhiR B c t.val (Nat.le_of_lt t.isLt) := by
  dsimp only [dats]; exact Pipeline.Dat.Φ_castSucc (PhiR B c) t

theorem after0_0 (c : Dev nD) (t : Fin cfg0.N) : (dats B 0 c).after 0 t = iblk B c 0 t := by dsimp only [dats]
theorem after0_1 (c : Dev nD) (t : Fin cfg0.N) : (dats B 0 c).after 1 t = iblk B c 1 t := by dsimp only [dats]
theorem after0_2 (c : Dev nD) (t : Fin cfg0.N) : (dats B 0 c).after 2 t = iblk B c 2 t := by dsimp only [dats]
theorem after0_3 (c : Dev nD) (t : Fin cfg0.N) : (dats B 0 c).after 3 t = iblk B c 3 t := by dsimp only [dats]
theorem after0_4 (c : Dev nD) (t : Fin cfg0.N) : (dats B 0 c).after 4 t = iblk B c 4 t := by dsimp only [dats]
theorem after0_5 (c : Dev nD) (t : Fin cfg0.N) : (dats B 0 c).after 5 t = iblk B c 5 t := by dsimp only [dats]
theorem after0_6 (c : Dev nD) (t : Fin cfg0.N) : (dats B 0 c).after 6 t = mpBlk (WTof B c) t.val := by dsimp only [dats]
theorem after0_7 (c : Dev nD) (t : Fin cfg0.N) : (dats B 0 c).after 7 t = ixBlk (WTof B c) t.val := by dsimp only [dats]
theorem after0_8 (c : Dev nD) (t : Fin cfg0.N) : (dats B 0 c).after 8 t = nlBlk (WTof B c) (STof B c) t.val := by dsimp only [dats]
theorem after0_9 (c : Dev nD) (t : Fin cfg0.N) : (dats B 0 c).after 9 t = tblV (WTof B c) (PTof B c) (TAof B c) := by dsimp only [dats]

/-! ## The blocks the windows read -/

theorem index2 : ∀ t : Fin grid0.N, win0_2.index t 0 = 0 ∧ win0_2.index t 1 = 2 * t.val := by decide +kernel
theorem index3 : ∀ t : Fin grid0.N, win0_3.index t 0 = 0 ∧ win0_3.index t 1 = 2 * t.val := by decide +kernel
theorem index4 : ∀ t : Fin grid0.N, win0_4.index t 0 = 0 ∧ win0_4.index t 1 = 2 * t.val + 1 := by decide +kernel
theorem index5 : ∀ t : Fin grid0.N, win0_5.index t 0 = 0 ∧ win0_5.index t 1 = 2 * t.val + 1 := by decide +kernel

theorem index6 : ∀ t : Fin grid0.N, win0_6.index t 0 = t.val := by decide +kernel
theorem index7 : ∀ t : Fin grid0.N, win0_7.index t 0 = t.val := by decide +kernel
theorem index8 : ∀ t : Fin grid0.N, win0_8.index t 0 = t.val := by decide +kernel
theorem index0 : ∀ t : Fin grid0.N, win0_0.index t 0 = 0 := by decide +kernel
theorem index1 : ∀ t : Fin grid0.N, win0_1.index t 0 = 0 := by decide +kernel
theorem index9 : ∀ t : Fin grid0.N, win0_9.index t 0 = 0 := by decide +kernel

theorem ix_ext2 {a b : S1000x16384.Idx} (h0 : (a 0).val = (b 0).val) (h1 : (a 1).val = (b 1).val) : a = b := by
  funext k; apply Fin.ext
  match k with
  | ⟨0, _⟩ => exact h0
  | ⟨1, _⟩ => exact h1

theorem iblk2 (c : Dev nD) (t : Fin cfg0.N) : iblk B c 2 t = wcol (WTof B c) (2 * t.val) := by
  have hN : t.val < 16 := lt_of_lt_of_eq t.isLt (show cfg0.N = 16 from N_0)
  funext j
  blk_simp [iblk]
  have hj : (j 1).val < 512 := (j 1).isLt
  refine congrArg (WTof B c) (ix_ext2 ?_ ?_)
  · refine (Window.rect_emb_val win0_2 t j 0).trans ?_
    rw [(index2 t).1, Nat.zero_mul, Nat.zero_add]
  · refine (Window.rect_emb_val win0_2 t j 1).trans ?_
    rw [(index2 t).2]
    change 2 * t.val * 512 + (j 1).val = (512 * (2 * t.val) + (j 1).val) % 16384
    omega
theorem iblk3 (c : Dev nD) (t : Fin cfg0.N) : iblk B c 3 t = wcol (STof B c) (2 * t.val) := by
  have hN : t.val < 16 := lt_of_lt_of_eq t.isLt (show cfg0.N = 16 from N_0)
  funext j
  blk_simp [iblk]
  have hj : (j 1).val < 512 := (j 1).isLt
  refine congrArg (STof B c) (ix_ext2 ?_ ?_)
  · refine (Window.rect_emb_val win0_3 t j 0).trans ?_
    rw [(index3 t).1, Nat.zero_mul, Nat.zero_add]
  · refine (Window.rect_emb_val win0_3 t j 1).trans ?_
    rw [(index3 t).2]
    change 2 * t.val * 512 + (j 1).val = (512 * (2 * t.val) + (j 1).val) % 16384
    omega
theorem iblk4 (c : Dev nD) (t : Fin cfg0.N) : iblk B c 4 t = wcol (WTof B c) (2 * t.val + 1) := by
  have hN : t.val < 16 := lt_of_lt_of_eq t.isLt (show cfg0.N = 16 from N_0)
  funext j
  blk_simp [iblk]
  have hj : (j 1).val < 512 := (j 1).isLt
  refine congrArg (WTof B c) (ix_ext2 ?_ ?_)
  · refine (Window.rect_emb_val win0_4 t j 0).trans ?_
    rw [(index4 t).1, Nat.zero_mul, Nat.zero_add]
  · refine (Window.rect_emb_val win0_4 t j 1).trans ?_
    rw [(index4 t).2]
    change (2 * t.val + 1) * 512 + (j 1).val = (512 * (2 * t.val + 1) + (j 1).val) % 16384
    omega
theorem iblk5 (c : Dev nD) (t : Fin cfg0.N) : iblk B c 5 t = wcol (STof B c) (2 * t.val + 1) := by
  have hN : t.val < 16 := lt_of_lt_of_eq t.isLt (show cfg0.N = 16 from N_0)
  funext j
  blk_simp [iblk]
  have hj : (j 1).val < 512 := (j 1).isLt
  refine congrArg (STof B c) (ix_ext2 ?_ ?_)
  · refine (Window.rect_emb_val win0_5 t j 0).trans ?_
    rw [(index5 t).1, Nat.zero_mul, Nat.zero_add]
  · refine (Window.rect_emb_val win0_5 t j 1).trans ?_
    rw [(index5 t).2]
    change (2 * t.val + 1) * 512 + (j 1).val = (512 * (2 * t.val + 1) + (j 1).val) % 16384
    omega
theorem iblk0 (c : Dev nD) (t : Fin cfg0.N) : iblk B c 0 t = TAof B c := by
  funext j
  blk_simp [iblk]
  refine congrArg (TAof B c) (funext fun k => Fin.ext ?_)
  match k with
  | ⟨0, _⟩ =>
    refine (Window.rect_emb_val win0_0 t j 0).trans ?_
    rw [index0 t, Nat.zero_mul, Nat.zero_add]; rfl
theorem iblk1 (c : Dev nD) (t : Fin cfg0.N) : iblk B c 1 t = PTof B c := by
  funext j
  blk_simp [iblk]
  refine congrArg (PTof B c) (funext fun k => Fin.ext ?_)
  match k with
  | ⟨0, _⟩ =>
    refine (Window.rect_emb_val win0_1 t j 0).trans ?_
    rw [index1 t, Nat.zero_mul, Nat.zero_add]; rfl

/-! ## The arrays after the last point -/

theorem ofBlks_at {e : EltTy} (Bk : ℕ → Vec F S1024 e) (t : ℕ) (i : S16384.Idx) (y : S1024.Idx) (h : (i 0).val = 1024 * t + (y 0).val) :
    ofBlks Bk i = Bk t y := by
  have hy : (y 0).val < 1024 := (y 0).isLt
  have h1 : (i 0).val / 1024 = t := by omega
  have h2 : (i 0).val % 1024 = (y 0).val := by omega
  unfold ofBlks
  rw [h1]
  refine congrArg (Bk t) (funext fun k => Fin.ext ?_)
  match k with
  | ⟨0, _⟩ => exact h2

theorem arrAt6 (c : Dev nD) : (dats B 0 c).arrAt 6 cfg0.N = (ofBlks (mpBlk (WTof B c)) : Vec F S16384 .f32) := by
  refine (dats B 0 c).arrAt_eq_of_covers 6 _ (by decide +kernel) fun t hf y => ?_
  refine (congrFun (after0_6 B c t) y).trans (ofBlks_at _ _ _ _ ?_).symm
  refine (Window.rect_emb_val win0_6 t y 0).trans ?_
  rw [index6 t]
  exact congrArg (· + (y 0).val) (Nat.mul_comm _ _)
theorem arrAt7 (c : Dev nD) : (dats B 0 c).arrAt 7 cfg0.N = (ofBlks (F := F) (e := .i32) (ixBlk (WTof B c)) : Vec F S16384 .i32) := by
  refine (dats B 0 c).arrAt_eq_of_covers 7 _ (by decide +kernel) fun t hf y => ?_
  refine (congrFun (after0_7 B c t) y).trans (ofBlks_at (F := F) (e := .i32) _ _ _ _ ?_).symm
  refine (Window.rect_emb_val win0_7 t y 0).trans ?_
  rw [index7 t]
  exact congrArg (· + (y 0).val) (Nat.mul_comm _ _)
theorem arrAt8 (c : Dev nD) : (dats B 0 c).arrAt 8 cfg0.N = (ofBlks (nlBlk (WTof B c) (STof B c)) : Vec F S16384 .f32) := by
  refine (dats B 0 c).arrAt_eq_of_covers 8 _ (by decide +kernel) fun t hf y => ?_
  refine (congrFun (after0_8 B c t) y).trans (ofBlks_at _ _ _ _ ?_).symm
  refine (Window.rect_emb_val win0_8 t y 0).trans ?_
  rw [index8 t]
  exact congrArg (· + (y 0).val) (Nat.mul_comm _ _)
theorem arrAt9 (c : Dev nD) : (dats B 0 c).arrAt 9 cfg0.N = tblV (WTof B c) (PTof B c) (TAof B c) := by
  refine (dats B 0 c).arrAt_eq_of_covers 9 _ (by decide +kernel) fun t hf y => ?_
  refine (congrFun (after0_9 B c t) y).trans (congrArg (tblV (WTof B c) (PTof B c) (TAof B c)) (funext fun k => Fin.ext ?_))
  match k with
  | ⟨0, _⟩ =>
    refine Eq.symm ((Window.rect_emb_val win0_9 t y 0).trans ?_)
    rw [index9 t, Nat.zero_mul, Nat.zero_add]; rfl
theorem arrAt_in (c : Dev nD) (w : Fin cfg0.W) (h : ((cfg0.win w).isOut) = false) (n : ℕ) : (dats B 0 c).arrAt w n = B c (Pipeline.arrRef spec0 w) :=
  ((dats B 0 c).arrAt_in w h n).trans (A_eq B c w)

/-! ## The body at a generic point -/

theorem before0_0 (c : Dev nD) (t : Fin cfg0.N) (d) : (dats B 0 c).before 0 t d = iblk B c 0 t :=
  ((dats B 0 c).before_in_eq_fetched 0 rfl (fun _ => rfl) (fun _ _ _ => rfl) (fun t => by rw [after0_0]; unfold Dat.blockOf iblk; rw [A_eq]) t d).trans
    (by unfold Dat.fetched Dat.blockOf iblk; rw [A_eq]; try rfl)
theorem before0_1 (c : Dev nD) (t : Fin cfg0.N) (d) : (dats B 0 c).before 1 t d = iblk B c 1 t :=
  ((dats B 0 c).before_in_eq_fetched 1 rfl (fun _ => rfl) (fun _ _ _ => rfl) (fun t => by rw [after0_1]; unfold Dat.blockOf iblk; rw [A_eq]) t d).trans
    (by unfold Dat.fetched Dat.blockOf iblk; rw [A_eq]; try rfl)
theorem before0_2 (c : Dev nD) (t : Fin cfg0.N) (d) : (dats B 0 c).before 2 t d = iblk B c 2 t :=
  ((dats B 0 c).before_in_eq_fetched 2 rfl (fun _ => rfl) (fun _ _ _ => rfl) (fun t => by rw [after0_2]; unfold Dat.blockOf iblk; rw [A_eq]) t d).trans
    (by unfold Dat.fetched Dat.blockOf iblk; rw [A_eq]; try rfl)
theorem before0_3 (c : Dev nD) (t : Fin cfg0.N) (d) : (dats B 0 c).before 3 t d = iblk B c 3 t :=
  ((dats B 0 c).before_in_eq_fetched 3 rfl (fun _ => rfl) (fun _ _ _ => rfl) (fun t => by rw [after0_3]; unfold Dat.blockOf iblk; rw [A_eq]) t d).trans
    (by unfold Dat.fetched Dat.blockOf iblk; rw [A_eq]; try rfl)
theorem before0_4 (c : Dev nD) (t : Fin cfg0.N) (d) : (dats B 0 c).before 4 t d = iblk B c 4 t :=
  ((dats B 0 c).before_in_eq_fetched 4 rfl (fun _ => rfl) (fun _ _ _ => rfl) (fun t => by rw [after0_4]; unfold Dat.blockOf iblk; rw [A_eq]) t d).trans
    (by unfold Dat.fetched Dat.blockOf iblk; rw [A_eq]; try rfl)
theorem before0_5 (c : Dev nD) (t : Fin cfg0.N) (d) : (dats B 0 c).before 5 t d = iblk B c 5 t :=
  ((dats B 0 c).before_in_eq_fetched 5 rfl (fun _ => rfl) (fun _ _ _ => rfl) (fun t => by rw [after0_5]; unfold Dat.blockOf iblk; rw [A_eq]) t d).trans
    (by unfold Dat.fetched Dat.blockOf iblk; rw [A_eq]; try rfl)

/-- A window the body always stores, or only reads, leaves its buffer at what the proof data says. -/
theorem leaves (c : Dev nD) (w : Fin cfg0.W) (t : Fin cfg0.N) (h : cfg0.idle w (grid0.coords t) = false) :
    (dats B 0 c).leavesExact w t = owns (c : Thread nD τ) ((cfg0.win w).stage (cfg0.slots t w)) fullShare ((dats B 0 c).after w t) := by
  unfold Dat.leavesExact; rw [h]

theorem cond_first (t : Fin cfg0.N) : condFirst (grid0.coords t) ↔ t.val = 0 := by
  have hN : t.val < 16 := lt_of_lt_of_eq t.isLt (show cfg0.N = 16 from N_0)
  have h : ∀ t : Fin grid0.N, condFirst (grid0.coords t) ↔ t.val = 0 := by unfold condFirst; decide +kernel
  exact h t
theorem cond_last (t : Fin cfg0.N) : k0_cond2 (grid0.coords t) = 1#1 ↔ t.val = 15 := by
  have h : ∀ t : Fin grid0.N, k0_cond2 (grid0.coords t) = 1#1 ↔ t.val = 15 := by decide +kernel
  exact h t
theorem idle9 : ∀ t : Fin cfg0.N, t.val ≠ 15 → cfg0.idle 9 (grid0.coords t) = true := by
  have h : ∀ t : Fin grid0.N, t.val ≠ 15 → cfg0.idle 9 (grid0.coords t) = true := by decide +kernel
  exact h
theorem live9 : ∀ t : Fin cfg0.N, t.val = 15 → cfg0.idle 9 (grid0.coords t) = false := by
  have h : ∀ t : Fin grid0.N, t.val = 15 → cfg0.idle 9 (grid0.coords t) = false := by decide +kernel
  exact h
theorem noFlush9 (t : Fin cfg0.N) (h : t.val ≠ 15) : (cfg0.win 9).flush t = false := by
  have hN : t.val < 16 := lt_of_lt_of_eq t.isLt (show cfg0.N = 16 from N_0)
  rw [← Bool.not_eq_true, flush0_9]; omega

/-- What the body is called with at point `t`, -/
def bodyPre (c : Dev nD) (t : Fin cfg0.N) : sProp 𝕄 :=
  iprop((dats B 0 c).Φ t.castSucc ∗ (dats B 0 c).owesAt none t.castSucc
    ∗ (∃ d, owns (c : Thread nD τ) (st0_0 t) fullShare ((dats B 0 c).before 0 t d))
    ∗ (∃ d, owns (c : Thread nD τ) (st0_1 t) fullShare ((dats B 0 c).before 1 t d))
    ∗ (∃ d, owns (c : Thread nD τ) (st0_2 t) fullShare ((dats B 0 c).before 2 t d))
    ∗ (∃ d, owns (c : Thread nD τ) (st0_3 t) fullShare ((dats B 0 c).before 3 t d))
    ∗ (∃ d, owns (c : Thread nD τ) (st0_4 t) fullShare ((dats B 0 c).before 4 t d))
    ∗ (∃ d, owns (c : Thread nD τ) (st0_5 t) fullShare ((dats B 0 c).before 5 t d))
    ∗ (∃ d, owns (c : Thread nD τ) (st0_6 t) fullShare ((dats B 0 c).before 6 t d))
    ∗ (∃ d, owns (c : Thread nD τ) (st0_7 t) fullShare ((dats B 0 c).before 7 t d))
    ∗ (∃ d, owns (c : Thread nD τ) (st0_8 t) fullShare ((dats B 0 c).before 8 t d))
    ∗ (∃ d, owns (c : Thread nD τ) (st0_9 t) fullShare ((dats B 0 c).before 9 t d)))
/-- and what it returns. -/
def bodyPost (c : Dev nD) (t : Fin cfg0.N) : sProp 𝕄 :=
  iprop((dats B 0 c).Φ t.succ ∗ (dats B 0 c).owesAt none t.succ
    ∗ (dats B 0 c).leavesExact 0 t ∗ (dats B 0 c).leavesExact 1 t ∗ (dats B 0 c).leavesExact 2 t ∗ (dats B 0 c).leavesExact 3 t
    ∗ (dats B 0 c).leavesExact 4 t ∗ (dats B 0 c).leavesExact 5 t ∗ (dats B 0 c).leavesExact 6 t ∗ (dats B 0 c).leavesExact 7 t
    ∗ (dats B 0 c).leavesExact 8 t ∗ (dats B 0 c).leavesExact 9 t)

theorem csAt_step (WT : Vec F S1000x16384 .f32) (t : ℕ) : k0_pay9 (wcol WT (2 * t + 1)) (k0_pay9 (wcol WT (2 * t)) (csAt WT (2 * t))) = csAt WT (2 * (t + 1)) := rfl

theorem sound_body (c : Dev nD) (t : Fin cfg0.N) :
    bodyPre B c t ⊢ wp frame (wpE (defs₀ (F := F)) Variants.none c none) Set.univ (bodyAt0 t) (fun _ => bodyPost B c t) := by
  unfold bodyPre bodyPost bodyAt0
  simp only [before0_0, before0_1, before0_2, before0_3, before0_4, before0_5]
  rw [show (dats B 0 c).owesAt none t.succ = (dats B 0 c).owesAt none t.castSucc from rfl]
  rw [show (dats B 0 c).Φ t.succ = PhiR B c (t.val + 1) t.isLt from rfl, PhiR_succ]
  have hN : t.val < 16 := lt_of_lt_of_eq t.isLt (show cfg0.N = 16 from N_0)
  rw [leaves B c 0 t rfl, leaves B c 1 t rfl, leaves B c 2 t rfl, leaves B c 3 t rfl, leaves B c 4 t rfl, leaves B c 5 t rfl, leaves B c 6 t rfl,
    leaves B c 7 t rfl, leaves B c 8 t rfl, after0_0, after0_1, after0_2, after0_3, after0_4, after0_5, after0_6, after0_7, after0_8]
  rw [iblk0, iblk1, iblk2, iblk3, iblk4, iblk5]
  by_cases h0 : t.val = 0
  · have h1 : t.val ≠ 15 := by omega
    rw [Dat.leavesExact_idle (dats B 0 c) 9 t (idle9 t h1) (noFlush9 t h1), PhiR_castSucc, PhiR_zero B c _ _ h0]
    iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (wp_wand_r frame _ _)
    isplitl [H0 H1 H2 H3 H4 H5 H6 H7 H8 H9 HS0 HS1]
    · iapply (run_first c (grid0.coords t) _ _ _ _ _ _ _ _ _ _ _ _ _ _ _ _ _ _ _ _ _ _ _ _ (TAof B c) (PTof B c) (wcol (WTof B c) (2 * t.val)) (wcol (STof B c) (2 * t.val)) (wcol (WTof B c) (2 * t.val + 1)) (wcol (STof B c) (2 * t.val + 1)) ((cond_first t).mpr h0) (fun h => h1 ((cond_last t).mp h)) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexact H9
      isplitl [HS0]; · iexact HS0
      iexact HS1
    iintro %_ ⟨H0, H1, H2, H3, H4, H5, H6, H7, H8, H9, HS0, HS1⟩
    isplitl [HS0 HS1]
    · isplitl [HS0]
      · iapply (Entails.of_eq (congrArg (fun z => (owns (c : Thread nD τ) sc0 fullShare z : sProp 𝕄)) (by rw [h0]; rfl))) $$ HS0
      · iapply (Entails.of_eq (congrArg (fun z => (owns (c : Thread nD τ) sc1 fullShare z : sProp 𝕄)) (by rw [h0]; rfl))) $$ HS1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  · rw [PhiR_castSucc, PhiR_pos B c _ _ h0]
    by_cases h1 : t.val = 15
    · rw [leaves B c 9 t (live9 t h1), after0_9]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (wp_wand_r frame _ _)
      isplitl [H0 H1 H2 H3 H4 H5 H6 H7 H8 H9 HS0 HS1]
      · iapply (run_last c (grid0.coords t) _ _ _ _ _ _ _ _ _ _ _ _ _ _ _ _ _ _ _ _ _ _ _ _ (TAof B c) (PTof B c) (wcol (WTof B c) (2 * t.val)) (wcol (STof B c) (2 * t.val)) (wcol (WTof B c) (2 * t.val + 1)) (wcol (STof B c) (2 * t.val + 1)) (fun h => h0 ((cond_first t).mp h)) ((cond_last t).mpr h1) (csAt (WTof B c) (2 * t.val)) (fun _ => msAt (WTof B c) t.val))
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [H9]; · iexists _; iexact H9
        isplitl [HS0]; · iexact HS0
        iexact HS1
      iintro %_ ⟨H0, H1, H2, H3, H4, H5, H6, H7, H8, H9, HS0, HS1⟩
      isplitl [HS0 HS1]
      · isplitl [HS0]
        · iexact HS0
        · iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iapply (Entails.of_eq (congrArg (fun z => (owns (c : Thread nD τ) (st0_9 t) fullShare z : sProp 𝕄)) (by rw [h1]; rfl))) $$ H9
    · rw [Dat.leavesExact_idle (dats B 0 c) 9 t (idle9 t h1) (noFlush9 t h1)]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (wp_wand_r frame _ _)
      isplitl [H0 H1 H2 H3 H4 H5 H6 H7 H8 H9 HS0 HS1]
      · iapply (run_mid c (grid0.coords t) _ _ _ _ _ _ _ _ _ _ _ _ _ _ _ _ _ _ _ _ _ _ _ _ (TAof B c) (PTof B c) (wcol (WTof B c) (2 * t.val)) (wcol (STof B c) (2 * t.val)) (wcol (WTof B c) (2 * t.val + 1)) (wcol (STof B c) (2 * t.val + 1)) (fun h => h0 ((cond_first t).mp h)) (fun h => h1 ((cond_last t).mp h)) _ (csAt (WTof B c) (2 * t.val)) (fun _ => msAt (WTof B c) t.val))
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [H9]; · iexact H9
        isplitl [HS0]; · iexact HS0
        iexact HS1
      iintro %_ ⟨H0, H1, H2, H3, H4, H5, H6, H7, H8, H9, HS0, HS1⟩
      isplitl [HS0 HS1]
      · isplitl [HS0]
        · iexact HS0
        · iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9

theorem defs₀_row (t : Fin cfg0.N) : defs₀ (F := F) .tc cfg0.body (cfg0.bodyArgs t (cfg0.slots t)) = bodyAt0 t := rfl

theorem body_obligation (c : Dev nD) : BodyObligation (dats B 0 c) (defs₀ (F := F)) Variants.none none Set.univ := fun t => by
  rw [bigSep_W0, bigSep_W0, defs₀_row]
  exact triple_restated (sound_body B c t) rfl .rfl fun _ => .rfl

end Cert.Proof.KI

end
-- ==== Proof.Region.lean ====
/-
  The TensorCore phase's pallas_call as one step of @main: from the arrays its windows name, while the SparseCore call is
  still owed, to the same arrays with the four results in place.
-/
module

public import proofs.«01_k».proof.Proof.RegionDat
public import Idealize.ShloMosaic.Lib.Pipeline.RegionArrays

@[expose] public section

noncomputable section

namespace Cert.Proof.KI

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.ShloMosaic.ValueIdx (ix1 ix2)
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (B : Vals F)

/-- What the buffers hold where the region is left. -/
def B' (c : Dev nD) : (b : Ref sig .tc) → Buf (Elt F) ((c : Thread nD τ).loc b) :=
  Function.update (Function.update (Function.update (Function.update (B c)
    main_v3_0 (ofBlks (mpBlk (WTof B c)) : Vec F S16384 .f32))
    main_v3_1 (ofBlks (F := F) (e := .i32) (ixBlk (WTof B c)) : Vec F S16384 .i32))
    main_v3_2 (ofBlks (nlBlk (WTof B c) (STof B c)) : Vec F S16384 .f32))
    main_v3_3 (tblV (WTof B c) (PTof B c) (TAof B c) : Vec F S1024 .f32)

theorem B'_of_ne (c : Dev nD) {b : Ref sig .tc} (h0 : b ≠ main_v3_0) (h1 : b ≠ main_v3_1) (h2 : b ≠ main_v3_2) (h3 : b ≠ main_v3_3) : B' B c b = B c b := by
  unfold B'
  rw [Function.update_of_ne h3, Function.update_of_ne h2, Function.update_of_ne h1, Function.update_of_ne h0]
theorem B'_mp (c : Dev nD) : B' B c main_v3_0 = (ofBlks (mpBlk (WTof B c)) : Vec F S16384 .f32) := by
  unfold B'
  rw [Function.update_of_ne (by decide), Function.update_of_ne (by decide), Function.update_of_ne (by decide), Function.update_self]
theorem B'_ix (c : Dev nD) : B' B c main_v3_1 = (ofBlks (F := F) (e := .i32) (ixBlk (WTof B c)) : Vec F S16384 .i32) := by
  unfold B'
  rw [Function.update_of_ne (by decide), Function.update_of_ne (by decide), Function.update_self]
theorem B'_nl (c : Dev nD) : B' B c main_v3_2 = (ofBlks (nlBlk (WTof B c) (STof B c)) : Vec F S16384 .f32) := by
  unfold B'
  rw [Function.update_of_ne (by decide), Function.update_self]
theorem B'_tb (c : Dev nD) : B' B c main_v3_3 = (tblV (WTof B c) (PTof B c) (TAof B c) : Vec F S1024 .f32) := by
  unfold B'
  rw [Function.update_self]

/-- The arrays the windows name, one by one. -/
theorem arrBufs0_eq (c : Dev nD) (V : (b : Ref sig .tc) → Buf (Elt F) ((c : Thread nD τ).loc b)) :
    (Pipeline.arrBufs spec0 c V : sProp 𝕄)
      = iprop((wtLoc c ↦{fullShare} V main_v0) ∗ (stLoc c ↦{fullShare} V main_v1) ∗ (tauLoc c ↦{fullShare} V main_v2) ∗ (a3Loc c ↦{fullShare} V main_arg3)
        ∗ (mpLoc c ↦{fullShare} V main_v3_0) ∗ (ixLoc c ↦{fullShare} V main_v3_1) ∗ (nlLoc c ↦{fullShare} V main_v3_2) ∗ (tbLoc c ↦{fullShare} V main_v3_3)) := by
  unfold Pipeline.arrBufs
  exact bigSep_eq_bigSepL_of_eq [main_v0, main_v1, main_v2, main_arg3, main_v3_0, main_v3_1, main_v3_2, main_v3_3] (by decide) (by decide) _

abbrev adm : (p : Fin 1) → (pcfgs (F := F) p).Adm := fun p => (cfgs p).toPCfg_adm
/-- The proof data over the pipelines as the body table holds them. -/
def pdats : (p : Fin 1) → (c : Dev nD) → Dat τ (Elt F) (HIx 1) ℕ UU ℕ (Pipeline.pin (pcfgs (F := F)) adm p) c
  | 0 => dats B 0

theorem phinj : Function.Injective (cellOf (nD := nD) (τ := τ) (Pipeline.pin (pcfgs (F := F)) adm)) := cellOf_inj

/-- The calls the TensorCore still owes. -/
def oweTc (c : Dev nD) : sProp 𝕄 :=
  iprop(∃ W, ⌜(K (F := F)).WBelow (T c) W 0⌝ ∗ owes (T c) ((K (F := F)).Otc c 0) W)

theorem owesAt_in (c : Dev nD) : oweTc (F := F) c ⊢ ((dats B 0 c).owesAt none 0 : sProp 𝕄) := by
  unfold oweTc Dat.owesAt Pipeline.owesWithin Dat.bound
  iintro ⟨%W, %hW, HO⟩; iexists W; isplitr; · ipureintro; exact fun p hp => Or.inl (hW p hp)
  iexact HO
theorem owesAt_out (c : Dev nD) : ((dats B 0 c).owesAt none (Fin.last _) : sProp 𝕄) ⊢ oweTc (F := F) c := by
  unfold oweTc Dat.owesAt Pipeline.owesWithin Dat.bound
  iintro ⟨%W, %hW, HO⟩; iexists W; isplitr
  · ipureintro; intro p hp
    rcases hW hp with h | ⟨w, s, h⟩
    · exact h
    · rw [h]; exact le_rfl
  iexact HO

theorem Otc_none (c : Dev nD) (g : GSem nD τ sig) : (K (F := F)).Otc c 0 g none = 0 := by
  by_contra h
  have := (K (F := F)).lev_of_Otc_pos (Nat.pos_of_ne_zero h)
  exact absurd this (by change ¬ _ ≤ 0; omega)

theorem arrays_in (c : Dev nD) :
    (Pipeline.arrBufs spec0 c (B c) : sProp 𝕄) = (dats B 0 c).arrays ((dats B 0 c).arrAt · 0) :=
  Dat.arrBufs_eq_arrays (dats B 0 c) sharedIn0 arr_whole0 (fun _ _ => rfl) (B c) _ fun w => A_eq B c w
theorem arrays_out (c : Dev nD) :
    (Pipeline.arrBufs spec0 c (B' B c) : sProp 𝕄) = (dats B 0 c).arrays ((dats B 0 c).arrAt · cfg0.N) := by
  refine Dat.arrBufs_eq_arrays (dats B 0 c) sharedIn0 arr_whole0 (fun _ _ => rfl) (B' B c) _ fun w => ?_
  match w with
  | ⟨0, _⟩ => exact (arrAt_in B c 0 rfl _).trans (B'_of_ne B c (by decide) (by decide) (by decide) (by decide)).symm
  | ⟨1, _⟩ => exact (arrAt_in B c 1 rfl _).trans (B'_of_ne B c (by decide) (by decide) (by decide) (by decide)).symm
  | ⟨2, _⟩ => exact (arrAt_in B c 2 rfl _).trans (B'_of_ne B c (by decide) (by decide) (by decide) (by decide)).symm
  | ⟨3, _⟩ => exact (arrAt_in B c 3 rfl _).trans (B'_of_ne B c (by decide) (by decide) (by decide) (by decide)).symm
  | ⟨4, _⟩ => exact (arrAt_in B c 4 rfl _).trans (B'_of_ne B c (by decide) (by decide) (by decide) (by decide)).symm
  | ⟨5, _⟩ => exact (arrAt_in B c 5 rfl _).trans (B'_of_ne B c (by decide) (by decide) (by decide) (by decide)).symm
  | ⟨6, _⟩ => exact (arrAt6 B c).trans (B'_mp B c).symm
  | ⟨7, _⟩ => exact (arrAt7 B c).trans (B'_ix B c).symm
  | ⟨8, _⟩ => exact (arrAt8 B c).trans (B'_nl B c).symm
  | ⟨9, _⟩ => exact (arrAt9 B c).trans (B'_tb B c).symm

/-- The region. -/
def reg : Pipeline.RegionSeg (pcfgs (F := F)) adm (pdats B) none defs₀ 𝒱₀ (K (F := F)).L (K (F := F)).lev 0 where
  win := launch₀0.win
  block_pos := launch₀0.block_pos
  stage_whole := launch₀0.stage_whole
  K := PEmpty
  osem k := k.elim
  ho := Pipeline.OwnSemFacts.none _
  hbody c := (body_obligation B c).loose
  hwaits c := Pipeline.cellsWaits_intro _ (pdats B) none 0 c fun w s t => (K (F := F)).mayWait_none _ (Otc_none c)
  pre c := iprop(Pipeline.arrBufs spec0 c (B c) ∗ oweTc c)
  post c := iprop(Pipeline.arrBufs spec0 c (B' B c) ∗ oweTc c)
  X _ := iprop(emp)
  Y _ := iprop(emp)
  Z _ := iprop(emp)
  hentry c := by
    rw [Pipeline.ownSems0_none, Pipeline.prefHeld_of_none _ rfl, arrays_in]
    iintro ⟨⟨Ha, HO⟩, -, -⟩
    imodintro
    isplitl [Ha]; · iexact Ha
    isplitr; · iempintro
    isplitl [HO]; · iapply (owesAt_in B c); iexact HO
    isplitr <;> iempintro
  hin c := by
    rw [show (pdats B 0 c).Φ 0 = PhiR B c 0 (Nat.zero_le _) from rfl, PhiR_zero B c 0 _ rfl,
      show (Pipeline.scopedRest (Pipeline.pin (pcfgs (F := F)) adm 0).spec c : sProp 𝕄) = _ from scopedRest0_eq c]
    simp only [owns_whole]
    iintro ⟨-, -, Hs⟩; iexact Hs
  hout c := by
    rw [show (pdats B 0 c).Φ (Fin.last _) = PhiR B c cfg0.N (Nat.le_refl _) from rfl,
      PhiR_pos B c cfg0.N _ (by rw [show cfg0.N = 16 from N_0]; decide), Pipeline.ownSems0_none,
      show (Pipeline.scopedRest (Pipeline.pin (pcfgs (F := F)) adm 0).spec c : sProp 𝕄) = _ from scopedRest0_eq c]
    simp only [owns_whole]
    iintro ⟨H0, H1⟩
    isplitr; · iempintro
    isplitr; · iempintro
    isplitl [H0]; · iexists _; iexact H0
    iexists _; iexact H1
  hexit c := by
    rw [arrays_out]
    iintro ⟨Ha, HO, -, -⟩
    imodintro
    isplitl [Ha]; · iexact Ha
    iapply (owesAt_out B c); iexact HO

/-- The phase under the pipeline's own body table, -/
theorem region_step₀ [∀ e, Nonempty (Elt F e)] (c : Dev nD) :
    iprop(boundary (T c) ∗ (Pipeline.arrBufs spec0 c (B c) ∗ oweTc c) ∗ levAts (K (F := F)).L (K (F := F)).lev
        ∗ Pipeline.cellsGhost (Pipeline.pin (pcfgs (F := F)) adm) EP 0 c ∗ Pipeline.toksInit (Pipeline.pin (pcfgs (F := F)) adm) EP 0 c)
      ⊢ (wp frame (wpE (D (F := F)) 𝒱 (T c) none) Set.univ
          (.op (.customCall (Pipeline.entry 0) ()) fun x => .ret x)
          fun _ => iprop(boundary (T c) ∗ Pipeline.arrBufs spec0 c (B' B c) ∗ oweTc c) : sProp 𝕄) := by
  have h := Pipeline.RegionSeg.wp (pcfgs (F := F)) adm (pdats B) none phinj EP defs₀ 𝒱₀ (K (F := F)).L (K (F := F)).lev (reg B) c none
    (fun u hu => absurd hu (Option.not_mem_none u)) (fun x => .ret x) (fun _ => iprop(boundary (T c) ∗ Pipeline.arrBufs spec0 c (B' B c) ∗ oweTc c))
  rw [show (reg B).pre c = iprop(Pipeline.arrBufs spec0 c (B c) ∗ oweTc c) from rfl,
    show (reg B).post c = iprop(Pipeline.arrBufs spec0 c (B' B c) ∗ oweTc c) from rfl] at h
  iintro ⟨Hb, Hp, HL, Hc, Ht⟩
  iapply h
  isplitr [Hb Hp HL Hc Ht]
  · iintro ⟨Hb, Ha, HO⟩
    rw [wp_ret]
    imodintro
    isplitl [Hb]; · iexact Hb
    isplitl [Ha]; · iexact Ha
    iexact HO
  isplitl [Hb]; · iexact Hb
  isplitl [Hp]; · iexact Hp
  isplitl [HL]; · iexact HL
  isplitl [Hc]; · iexact Hc
  iexact Ht

/-- and as a step of @main. -/
theorem region_step [∀ e, Nonempty (Elt F e)] (c : Dev nD) :
    iprop(boundary (T c) ∗ (Pipeline.arrBufs spec0 c (B c) ∗ oweTc c) ∗ levAts (K (F := F)).L (K (F := F)).lev
        ∗ Pipeline.cellsGhost (Pipeline.pin (pcfgs (F := F)) adm) EP 0 c ∗ Pipeline.toksInit (Pipeline.pin (pcfgs (F := F)) adm) EP 0 c)
      ⊢ (wp frame (wpE ((K (F := F)).defs (D (F := F))) 𝒱 (T c) none) Set.univ
          (Prog.lift (.customCall (SparseCore.inner (Pipeline.entry 0)) ()))
          fun _ => iprop(boundary (T c) ∗ Pipeline.arrBufs spec0 c (B' B c) ∗ oweTc c) : sProp 𝕄) := by
  have h := (K (F := F)).wp_liftProg (D (F := F)) 𝒱 (T c) Set.univ none (.op (.customCall (Pipeline.entry 0) ()) fun x => .ret x)
    (fun _ => (iprop(boundary (T c) ∗ Pipeline.arrBufs spec0 c (B' B c) ∗ oweTc c) : sProp 𝕄))
  exact (region_step₀ B c).trans h

end Cert.Proof.KI

end
-- ==== Proof.Launch.lean ====
/-
  The launch: what the one SparseCore call takes and returns, what a task takes and returns, how the sixteen tasks
  share the call's arrays, and the launch element of the proof's ghost state.
-/
module

public import proofs.«01_k».proof.Proof.Tile
public import proofs.«01_k».proof.Proof.Region

@[expose] public section

noncomputable section

namespace Cert.Proof.KI

open Cert.KernelIdeal Cert.KernelIdeal.Gen
open Idealize.ShloMosaic Idealize.ShloMosaic.Tactic
open Idealize.ShloMosaic.TcCoe
open Idealize.ShloMosaic.SparseCore (S V T)
open Idealize.ShloMosaic.SparseCore.Cfg (HIx Pay)
open Idealize.ShloMosaic.StableHlo (held wp_hlo_within)
open Idealize.ShloMosaic.ValueIdx (ix1 ix2)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## The values of @main's buffers -/

abbrev opWT : HloOp τ sig (Elt F) := StableHlo.unary main_arg0 main_v0 ((transpose S1000x16384 [1, 0] · transposes_S16384x1000_S1000x16384_1_0) : (⟨S16384x1000, .f32⟩ : BufTy).Contents (Elt F) → (⟨S1000x16384, .f32⟩ : BufTy).Contents (Elt F))
abbrev opST : HloOp τ sig (Elt F) := StableHlo.unary main_arg1 main_v1 ((transpose S1000x16384 [1, 0] · transposes_S16384x1000_S1000x16384_1_0) : (⟨S16384x1000, .f32⟩ : BufTy).Contents (Elt F) → (⟨S1000x16384, .f32⟩ : BufTy).Contents (Elt F))
abbrev opTA : HloOp τ sig (Elt F) := StableHlo.reshape main_arg2 main_v2 (rfl : (.f32 : EltTy) = .f32) shapeCasts_S_S1
abbrev opZR : HloOp τ sig (Elt F) := StableHlo.nullary main_cst (constant S_ .f32 0x00000000#32)
abbrev opLS : HloOp τ sig (Elt F) := StableHlo.binary main_v4_1 main_cst main_v5 ((fun x v => Host.reduceAdd x v reducesTo_S16x16_S_d0_1 h_S_) : (⟨S16x16, .f32⟩ : BufTy).Contents (Elt F) → (⟨S_, .f32⟩ : BufTy).Contents (Elt F) → (⟨S_, .f32⟩ : BufTy).Contents (Elt F))

/-- A buffer of @main as the device names it. -/
abbrev dr (b : Ref sig .tc) : DevRef τ sig := Proc.devRef .tc b

def V0 (d : Dev nD) : Valuation τ sig (Elt F) := fun b => m (d, b)
/-- The buffers where the region is entered. -/
def V3 (d : Dev nD) : Valuation τ sig (Elt F) := opTA.result (opST.result (opWT.result (V0 m d)))
def B0 : Vals F := fun c b => V3 m c (dr b)

theorem B0_of_ne (d : Dev nD) {b : Ref sig .tc} (h0 : b ≠ main_v0) (h1 : b ≠ main_v1) (h2 : b ≠ main_v2) :
    B0 m d b = m ((SparseCore.T d).loc b) := by
  unfold B0 V3
  rw [HloOp.result_of_not_mem _ _ (b := dr b) (Finset.notMem_singleton.mpr fun h => h2 (Proc.devRef_injective _ h)),
    HloOp.result_of_not_mem _ _ (b := dr b) (Finset.notMem_singleton.mpr fun h => h1 (Proc.devRef_injective _ h)),
    HloOp.result_of_not_mem _ _ (b := dr b) (Finset.notMem_singleton.mpr fun h => h0 (Proc.devRef_injective _ h))]
  rfl

/-- What the first phase leaves. -/
abbrev WTm (d : Dev nD) : Vec F S1000x16384 .f32 := WTof (B0 m) d
abbrev STm (d : Dev nD) : Vec F S1000x16384 .f32 := STof (B0 m) d
abbrev TAm (d : Dev nD) : Vec F S1 .f32 := TAof (B0 m) d
abbrev PTm (d : Dev nD) : Vec F S1000 .f32 := PTof (B0 m) d
abbrev MPm (d : Dev nD) : Vec F S16384 .f32 := ofBlks (mpBlk (WTm m d))
abbrev IXm (d : Dev nD) : Vec F S16384 .i32 := ofBlks (F := F) (e := .i32) (ixBlk (WTm m d))
abbrev NLm (d : Dev nD) : Vec F S16384 .f32 := ofBlks (nlBlk (WTm m d) (STm m d))
abbrev TBm (d : Dev nD) : Vec F S1024 .f32 := tblV (WTm m d) (PTm m d) (TAm m d)
/-- What the second phase leaves. -/
abbrev MKm (d : Dev nD) : Vec F S16384 .f32 := maskA (IXm m d) (MPm m d) (TBm m d)
abbrev PAm (d : Dev nD) : Vec F S16x16 .f32 := partA (IXm m d) (MPm m d) (NLm m d) (TBm m d)
abbrev LSm (d : Dev nD) : Vec F S_ .f32 := Host.reduceAdd (PAm m d) (constant S_ .f32 0x00000000#32) reducesTo_S16x16_S_d0_1 h_S_

theorem WTm_eq (d : Dev nD) : WTm m d = transpose S1000x16384 [1, 0] (m (a0Loc d) : Vec F S16384x1000 .f32) transposes_S16384x1000_S1000x16384_1_0 := by
  unfold WTm WTof B0 V3
  rw [HloOp.result_of_not_mem _ _ (b := dr main_v0) (Finset.notMem_singleton.mpr fun h => absurd (Proc.devRef_injective _ h) (by decide)),
    HloOp.result_of_not_mem _ _ (b := dr main_v0) (Finset.notMem_singleton.mpr fun h => absurd (Proc.devRef_injective _ h) (by decide))]
  exact StableHlo.unary_result _ _ _ _ _ _
theorem STm_eq (d : Dev nD) : STm m d = transpose S1000x16384 [1, 0] (m (a1Loc d) : Vec F S16384x1000 .f32) transposes_S16384x1000_S1000x16384_1_0 := by
  unfold STm STof B0 V3
  rw [HloOp.result_of_not_mem _ _ (b := dr main_v1) (Finset.notMem_singleton.mpr fun h => absurd (Proc.devRef_injective _ h) (by decide))]
  refine (StableHlo.unary_result _ _ _ _ _ _).trans (congrArg (fun x : Vec F S16384x1000 .f32 => transpose S1000x16384 [1, 0] x transposes_S16384x1000_S1000x16384_1_0) ?_)
  rw [HloOp.result_of_not_mem _ _ (b := dr main_arg1) (Finset.notMem_singleton.mpr fun h => absurd (Proc.devRef_injective _ h) (by decide))]
  rfl
/-- The one place of an array of no axes. -/
abbrev ix0 : S_.Idx := fun a => a.elim0
theorem TAm_eq (d : Dev nD) : TAm m d = fun _ => (m (a2Loc d) : Vec F S_ .f32) ix0 := by
  unfold TAm TAof B0 V3
  refine (StableHlo.reshape_result (τ := τ) main_arg2 main_v2 _ _ _ _ _).trans ?_
  rw [HloOp.result_of_not_mem _ _ (b := dr main_arg2) (Finset.notMem_singleton.mpr fun h => absurd (Proc.devRef_injective _ h) (by decide)),
    HloOp.result_of_not_mem _ _ (b := dr main_arg2) (Finset.notMem_singleton.mpr fun h => absurd (Proc.devRef_injective _ h) (by decide))]
  exact funext fun _ => congrArg (m (a2Loc d) : Vec F S_ .f32) (funext fun a => a.elim0)
theorem PTm_eq (d : Dev nD) : PTm m d = m (a3Loc d) := B0_of_ne m d (by decide) (by decide) (by decide)

/-! ## The call's and the tasks' payloads -/

def P : (K (F := F)).Pay (nD := nD) (Val := Elt F) (Name := ℕ) (U := UU) where
  st := fun q d _ => match q with
    | 0 => iprop((ixLoc d ↦{fullShare} IXm m d) ∗ (mpLoc d ↦{fullShare} MPm m d) ∗ (nlLoc d ↦{fullShare} NLm m d)
        ∗ (tbLoc d ↦{fullShare} TBm m d) ∗ (mkLoc d ↦{fullShare} B0 m d main_v4_0) ∗ (paLoc d ↦{fullShare} B0 m d main_v4_1))
  dn := fun q d _ => match q with
    | 0 => iprop((ixLoc d ↦{fullShare} IXm m d) ∗ (mpLoc d ↦{fullShare} MPm m d) ∗ (nlLoc d ↦{fullShare} NLm m d)
        ∗ (tbLoc d ↦{fullShare} TBm m d) ∗ (mkLoc d ↦{fullShare} MKm m d) ∗ (paLoc d ↦{fullShare} PAm m d))
  go := fun q d _ i => match q with
    | 0 => iprop((ixLoc d ↦[rowSet (Fin.cast nSub_zero i)]{fullShare} IXm m d) ∗ (mpLoc d ↦[rowSet (Fin.cast nSub_zero i)]{fullShare} MPm m d)
        ∗ (nlLoc d ↦[rowSet (Fin.cast nSub_zero i)]{fullShare} NLm m d) ∗ (tbLoc d ↦{tq (Fin.cast nSub_zero i)} TBm m d)
        ∗ (mkLoc d ↦[rowSet (Fin.cast nSub_zero i)]{fullShare} B0 m d main_v4_0) ∗ (paLoc d ↦[prowSet (Fin.cast nSub_zero i)]{fullShare} B0 m d main_v4_1))
  td := fun q d _ i => match q with
    | 0 => iprop((ixLoc d ↦[rowSet (Fin.cast nSub_zero i)]{fullShare} IXm m d) ∗ (mpLoc d ↦[rowSet (Fin.cast nSub_zero i)]{fullShare} MPm m d)
        ∗ (nlLoc d ↦[rowSet (Fin.cast nSub_zero i)]{fullShare} NLm m d) ∗ (tbLoc d ↦{tq (Fin.cast nSub_zero i)} TBm m d)
        ∗ (mkLoc d ↦[rowSet (Fin.cast nSub_zero i)]{fullShare} MKm m d) ∗ (paLoc d ↦[prowSet (Fin.cast nSub_zero i)]{fullShare} PAm m d))
  x := fun _ _ => iprop(emp)

instance P_storable : (P (F := F) m).IsStorable where
  st q d _ := match q with
    | 0 => (inferInstance : BI.Storable (upEmb : UEmb _ 𝕄) iprop((ixLoc d ↦{fullShare} IXm m d) ∗ (mpLoc d ↦{fullShare} MPm m d) ∗ (nlLoc d ↦{fullShare} NLm m d)
        ∗ (tbLoc d ↦{fullShare} TBm m d) ∗ (mkLoc d ↦{fullShare} B0 m d main_v4_0) ∗ (paLoc d ↦{fullShare} B0 m d main_v4_1)))
  dn q d _ := match q with
    | 0 => (inferInstance : BI.Storable (upEmb : UEmb _ 𝕄) iprop((ixLoc d ↦{fullShare} IXm m d) ∗ (mpLoc d ↦{fullShare} MPm m d) ∗ (nlLoc d ↦{fullShare} NLm m d)
        ∗ (tbLoc d ↦{fullShare} TBm m d) ∗ (mkLoc d ↦{fullShare} MKm m d) ∗ (paLoc d ↦{fullShare} PAm m d)))
  go q d _ i := match q with
    | 0 => (inferInstance : BI.Storable (upEmb : UEmb _ 𝕄) iprop((ixLoc d ↦[rowSet (Fin.cast nSub_zero i)]{fullShare} IXm m d) ∗ (mpLoc d ↦[rowSet (Fin.cast nSub_zero i)]{fullShare} MPm m d)
        ∗ (nlLoc d ↦[rowSet (Fin.cast nSub_zero i)]{fullShare} NLm m d) ∗ (tbLoc d ↦{tq (Fin.cast nSub_zero i)} TBm m d)
        ∗ (mkLoc d ↦[rowSet (Fin.cast nSub_zero i)]{fullShare} B0 m d main_v4_0) ∗ (paLoc d ↦[prowSet (Fin.cast nSub_zero i)]{fullShare} B0 m d main_v4_1)))
  td q d _ i := match q with
    | 0 => (inferInstance : BI.Storable (upEmb : UEmb _ 𝕄) iprop((ixLoc d ↦[rowSet (Fin.cast nSub_zero i)]{fullShare} IXm m d) ∗ (mpLoc d ↦[rowSet (Fin.cast nSub_zero i)]{fullShare} MPm m d)
        ∗ (nlLoc d ↦[rowSet (Fin.cast nSub_zero i)]{fullShare} NLm m d) ∗ (tbLoc d ↦{tq (Fin.cast nSub_zero i)} TBm m d)
        ∗ (mkLoc d ↦[rowSet (Fin.cast nSub_zero i)]{fullShare} MKm m d) ∗ (paLoc d ↦[prowSet (Fin.cast nSub_zero i)]{fullShare} PAm m d)))

/-! ## The task's obligation -/

/-- The grid point of a core and a subcore. -/
def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__phase2_sc_body (coordsV c s)
          ixV (Memref.isWhole_whole _) mpV (Memref.isWhole_whole _) nlV (Memref.isWhole_whole _) tbV (Memref.isWhole_whole _)
          mkV (Memref.isWhole_whole _) paV (Memref.isWhole_whole _) s0V (Memref.isWhole_whole _) s1V (Memref.isWhole_whole _) s2V (Memref.isWhole_whole _)
          s3V (Memref.isWhole_whole _) s4V (Memref.isWhole_whole _) s5V (Memref.isWhole_whole _) cc1_scratch6 cc1_scoped0 cc1_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') :=
  sep_mono_right (sep_mono_right (sep_mono_right (exists_mono fun _ => sep_mono_left (Laws.pure_mono fun h p hp => (h p hp).imp_right Or.inl))))

set_option maxRecDepth 16384 in
theorem tileObl (hF : (K (F := F)).Facts) (hIX : ∀ d j, (IXm m d j).toNat < 1024) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (IXm m d) (MPm m d) (NLm m d) (TBm m d) hF (hIX d) (B0 m d main_v4_0) (B0 m d main_v4_1) O W hO).trans (wp_mono frame _ _ fun _ => obl_post)

/-! ## The sixteen blocks split and join -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem rows_disjoint : ∀ i ∈ (Finset.univ : Finset (Fin 16)), ∀ j ∈ (Finset.univ : Finset (Fin 16)), i ≠ j → Disjoint (rowSet i) (rowSet j) :=
  fun _ _ _ _ h => Rect.part_disjoint rdiv h
theorem prows_disjoint : ∀ i ∈ (Finset.univ : Finset (Fin 16)), ∀ j ∈ (Finset.univ : Finset (Fin 16)), i ≠ j → Disjoint (prowSet i) (prowSet j) :=
  fun _ _ _ _ h => Rect.part_disjoint pdiv h
theorem rows_cover : (Finset.univ : Finset (Fin 16)).biUnion rowSet = Finset.univ := Rect.biUnion_part rdiv
theorem prows_cover : (Finset.univ : Finset (Fin 16)).biUnion prowSet = Finset.univ := Rect.biUnion_part pdiv

theorem ixPts_rows (d : Dev nD) (f : Buf (Elt F) (ixLoc d)) :
    (ixLoc d ↦{fullShare} f : sProp 𝕄) = bigSep Finset.univ fun i : Fin 16 => ixLoc d ↦[rowSet i]{fullShare} f := by
  rw [← pointsTo_biUnion Finset.univ (ℓ := ixLoc d) rowSet rows_disjoint, rows_cover]; try rfl
theorem mpPts_rows (d : Dev nD) (f : Buf (Elt F) (mpLoc d)) :
    (mpLoc d ↦{fullShare} f : sProp 𝕄) = bigSep Finset.univ fun i : Fin 16 => mpLoc d ↦[rowSet i]{fullShare} f := by
  rw [← pointsTo_biUnion Finset.univ (ℓ := mpLoc d) rowSet rows_disjoint, rows_cover]; try rfl
theorem nlPts_rows (d : Dev nD) (f : Buf (Elt F) (nlLoc d)) :
    (nlLoc d ↦{fullShare} f : sProp 𝕄) = bigSep Finset.univ fun i : Fin 16 => nlLoc d ↦[rowSet i]{fullShare} f := by
  rw [← pointsTo_biUnion Finset.univ (ℓ := nlLoc d) rowSet rows_disjoint, rows_cover]; try rfl
theorem mkPts_rows (d : Dev nD) (f : Buf (Elt F) (mkLoc d)) :
    (mkLoc d ↦{fullShare} f : sProp 𝕄) = bigSep Finset.univ fun i : Fin 16 => mkLoc d ↦[rowSet i]{fullShare} f := by
  rw [← pointsTo_biUnion Finset.univ (ℓ := mkLoc d) rowSet rows_disjoint, rows_cover]; try rfl
theorem paPts_rows (d : Dev nD) (f : Buf (Elt F) (paLoc d)) :
    (paLoc d ↦{fullShare} f : sProp 𝕄) = bigSep Finset.univ fun i : Fin 16 => paLoc d ↦[prowSet i]{fullShare} f := by
  rw [← pointsTo_biUnion Finset.univ (ℓ := paLoc d) prowSet prows_disjoint, prows_cover]; try rfl
theorem tbPts_shares (d : Dev nD) (f : Buf (Elt F) (tbLoc d)) :
    (tbLoc d ↦{fullShare} f : sProp 𝕄) = bigSep Finset.univ fun i : Fin 16 => tbLoc d ↦{tq i} f :=
  Transfers.pointsTo_deal Finset.univ ⟨0, Finset.mem_univ _⟩ fullShare

/-- A task's six pieces, at contents `mk` and `pa` of the two results. -/
abbrev piece (d : Dev nD) (mk : Vec F S16384 .f32) (pa : Vec F S16x16 .f32) (i : Fin 16) : sProp 𝕄 :=
  iprop((ixLoc d ↦[rowSet i]{fullShare} IXm m d) ∗ (mpLoc d ↦[rowSet i]{fullShare} MPm m d) ∗ (nlLoc d ↦[rowSet i]{fullShare} NLm m d)
    ∗ (tbLoc d ↦{tq i} TBm m d) ∗ (mkLoc d ↦[rowSet i]{fullShare} mk) ∗ (paLoc d ↦[prowSet i]{fullShare} pa))

/-- The call's six arrays are the sixteen tasks' pieces. -/
theorem pieces (d : Dev nD) (mk : Vec F S16384 .f32) (pa : Vec F S16x16 .f32) :
    (iprop((ixLoc d ↦{fullShare} IXm m d) ∗ (mpLoc d ↦{fullShare} MPm m d) ∗ (nlLoc d ↦{fullShare} NLm m d)
        ∗ (tbLoc d ↦{fullShare} TBm m d) ∗ (mkLoc d ↦{fullShare} mk) ∗ (paLoc d ↦{fullShare} pa)) : sProp 𝕄)
      = bigSep Finset.univ (piece m d mk pa) := by
  unfold piece
  rw [bigSep_sep', bigSep_sep', bigSep_sep', bigSep_sep', bigSep_sep',
    ← ixPts_rows, ← mpPts_rows, ← nlPts_rows, ← tbPts_shares, ← mkPts_rows, ← paPts_rows]

set_option maxRecDepth 4096 in
theorem vecSplit : (K (F := F)).VecSplit' (P m) 0 := by
  intro d c
  show iprop((ixLoc d ↦{fullShare} IXm m d) ∗ (mpLoc d ↦{fullShare} MPm m d) ∗ (nlLoc d ↦{fullShare} NLm m d)
        ∗ (tbLoc d ↦{fullShare} TBm m d) ∗ (mkLoc d ↦{fullShare} B0 m d main_v4_0) ∗ (paLoc d ↦{fullShare} B0 m d main_v4_1)) ⊢ |={Set.univ}=> iprop(
      (bigSep Finset.univ fun i : Fin ((K (F := F)).nSub 0) => piece m d (B0 m d main_v4_0) (B0 m d main_v4_1) (Fin.cast nSub_zero i))
      ∗ ((bigSep Finset.univ fun i : Fin ((K (F := F)).nSub 0) => piece m d (MKm m d) (PAm m d) (Fin.cast nSub_zero i))
          -∗ iprop((ixLoc d ↦{fullShare} IXm m d) ∗ (mpLoc d ↦{fullShare} MPm m d) ∗ (nlLoc d ↦{fullShare} NLm m d)
            ∗ (tbLoc d ↦{fullShare} TBm m d) ∗ (mkLoc d ↦{fullShare} MKm m d) ∗ (paLoc d ↦{fullShare} PAm m d))))
  rw [bigSep_tasks (F := F) (piece m d (B0 m d main_v4_0) (B0 m d main_v4_1)), bigSep_tasks (F := F) (piece m d (MKm m d) (PAm m d)), pieces, pieces]
  iintro H; imodintro
  isplitl [H]; · iexact H
  iintro H; iexact H

/-! ## The launch element of the ghost state -/

def u₀ : UU := (initOf (K (F := F)).hsCells (K (F := F)).hsToks,
  (initOf (Pipeline.cells (Pipeline.pin (pcfgs (F := F)) adm) phinj) (Pipeline.launchToks (Pipeline.pin (pcfgs (F := F)) adm) phinj), 1))

theorem bigSep_emp' {I : Type} (s : Finset I) : (bigSep s fun _ => iprop(emp)) = (iprop(emp) : sProp 𝕄) := bigSep_emp_const s

theorem bigSep_one (Φ : Dev nD → Fin 1 → sProp 𝕄) :
    (bigSep Finset.univ fun d => bigSep Finset.univ fun p => Φ d p) = bigSep Finset.univ fun d => Φ d 0 :=
  bigSep_congr fun _ _ => bigSep_univ_of_subsingleton (0 : Fin 1)

/-- What @main starts from: the pipeline's cells and tokens. -/
abbrev G (d : Dev nD) : sProp 𝕄 :=
  iprop(Pipeline.cellsGhost (Pipeline.pin (pcfgs (F := F)) adm) EP 0 d ∗ Pipeline.toksInit (Pipeline.pin (pcfgs (F := F)) adm) EP 0 d)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells (Pipeline.pin (pcfgs (F := F)) adm) phinj) (Pipeline.launchToks (Pipeline.pin (pcfgs (F := F)) adm) phinj), 1) : UP × Counters)) $$ Hu
  icases H with ⟨HH, HR⟩
  ihave HR' := (own_pair_emb (embR : Emb (UP × Counters) 𝕄)
    (initOf (Pipeline.cells (Pipeline.pin (pcfgs (F := F)) adm) phinj) (Pipeline.launchToks (Pipeline.pin (pcfgs (F := F)) adm) phinj)) (1 : Counters)) $$ HR
  icases HR' with ⟨HP, -⟩
  ihave HG := (show BI.own (((Emb.inl : Emb UP (UP × Counters)).trans (embR : Emb (UP × Counters) 𝕄))
      (initOf (Pipeline.cells (Pipeline.pin (pcfgs (F := F)) adm) phinj) (Pipeline.launchToks (Pipeline.pin (pcfgs (F := F)) adm) phinj))) ⊢ _ from
    Pipeline.fund_ghost (Pipeline.pin (pcfgs (F := F)) adm) (EP (F := F)) phinj) $$ HP
  imod HG with ⟨HC, HT⟩
  imodintro
  isplitl [HH]; · iexact HH
  isplitl [HC HT]
  · rw [bigSep_sep']
    isplitl [HC]
    · ihave H := (Entails.of_eq (bigSep_one (fun d p => Pipeline.cellsGhost (Pipeline.pin (pcfgs (F := F)) adm) EP p d))) $$ HC
      iexact H
    · ihave H := (Entails.of_eq (bigSep_one (fun d p => Pipeline.toksInit (Pipeline.pin (pcfgs (F := F)) adm) EP p d))) $$ HT
      iexact H
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

end Cert.Proof.KI

end
-- ==== Proof.Main.lean ====
/-
  @main on the TensorCore — the two transposes and the reshape, the pipelined first phase, the SparseCore call, the
  final sum — and the run of the whole program, with what its two results hold.
-/
module

public import proofs.«01_k».proof.Proof.Launch

@[expose] public section

noncomputable section

namespace Cert.Proof.KI

open Cert.KernelIdeal Cert.KernelIdeal.Gen
open Idealize.ShloMosaic Idealize.ShloMosaic.Tactic
open Idealize.ShloMosaic.TcCoe
open Idealize.ShloMosaic.SparseCore.Cfg (HIx Pay)
open Idealize.ShloMosaic.StableHlo (held wp_hlo_within)
open Idealize.ShloMosaic.ValueIdx (ix1 ix2)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

theorem hWT : (opWT (F := F)).bufs ⊆ Pipeline.ucRefs τ sig :=
  Pipeline.sub_ucRefs _ (show ({dr main_arg0, dr main_v0} : Finset (DevRef τ sig)) ⊆ _ from fun b hb => by
    simp only [Finset.mem_insert, Finset.mem_singleton] at hb
    rcases hb with rfl | rfl <;> exact StableHlo.devRef_mem_tcRefs _)
theorem hST : (opST (F := F)).bufs ⊆ Pipeline.ucRefs τ sig :=
  Pipeline.sub_ucRefs _ (show ({dr main_arg1, dr main_v1} : Finset (DevRef τ sig)) ⊆ _ from fun b hb => by
    simp only [Finset.mem_insert, Finset.mem_singleton] at hb
    rcases hb with rfl | rfl <;> exact StableHlo.devRef_mem_tcRefs _)
theorem hTA : (opTA (F := F)).bufs ⊆ Pipeline.ucRefs τ sig :=
  Pipeline.sub_ucRefs _ (show ({dr main_arg2, dr main_v2} : Finset (DevRef τ sig)) ⊆ _ from fun b hb => by
    simp only [Finset.mem_insert, Finset.mem_singleton] at hb
    rcases hb with rfl | rfl <;> exact StableHlo.devRef_mem_tcRefs _)

/-- The three buffers of the final sum. -/
abbrev S3 : Finset (DevRef τ sig) := {dr main_v4_1, dr main_cst, dr main_v5}

theorem held_S3 (d : Dev nD) (W : Valuation τ sig (Elt F)) :
    (held (SparseCore.T d) S3 W : sProp 𝕄) = iprop((paLoc d ↦{fullShare} W (dr main_v4_1)) ∗ (zrLoc d ↦{fullShare} W (dr main_cst)) ∗ lsLoc d ↦{fullShare} W (dr main_v5)) := by
  unfold held S3
  rw [SparseCore.bigSep_insert' (by decide), SparseCore.bigSep_insert' (by decide), bigSep_singleton]

theorem hZR : (opZR (F := F)).bufs ⊆ S3 := show ({dr main_cst} : Finset (DevRef τ sig)) ⊆ S3 by decide
theorem hLS : (opLS (F := F)).bufs ⊆ S3 := show ({dr main_v4_1, dr main_cst, dr main_v5} : Finset (DevRef τ sig)) ⊆ S3 by decide

/-- The buffers after the call. -/
def V5 (d : Dev nD) : Valuation τ sig (Elt F) := Function.update (V3 m d) (dr main_v4_1) (PAm m d)

theorem V5_pa (d : Dev nD) : V5 m d (dr main_v4_1) = PAm m d := Function.update_self _ _ _
theorem V5_of_ne (d : Dev nD) {b : Ref sig .tc} (h : b ≠ main_v4_1) : V5 m d (dr b) = B0 m d b :=
  Function.update_of_ne (fun e => h (Proc.devRef_injective _ e)) _ _

theorem V7_ls (d : Dev nD) : (opLS (F := F)).result ((opZR (F := F)).result (V5 m d)) (dr main_v5) = LSm m d := by
  refine (StableHlo.binary_result (τ := τ) main_v4_1 main_cst main_v5 _ _ _ _ _).trans ?_
  have h1 : (opZR (F := F)).result (V5 m d) (dr main_v4_1) = PAm m d := by
    rw [HloOp.result_of_not_mem _ _ (b := dr main_v4_1) (Finset.notMem_singleton.mpr fun h => absurd (Proc.devRef_injective _ h) (by decide))]
    exact V5_pa m d
  have h2 : (opZR (F := F)).result (V5 m d) (dr main_cst) = constant S_ .f32 0x00000000#32 := StableHlo.nullary_result (τ := τ) _ _ _ _
  exact congrArg₂ (fun (x : Vec F S16x16 .f32) (v : Vec F S_ .f32) => Host.reduceAdd x v reducesTo_S16x16_S_d0_1 h_S_) h1 h2

theorem st0_eq (d : Dev nD) : (bigSep Finset.univ fun c : Fin ((K (F := F)).nCore 0) => (P m).st 0 d c)
    = iprop((ixLoc d ↦{fullShare} IXm m d) ∗ (mpLoc d ↦{fullShare} MPm m d) ∗ (nlLoc d ↦{fullShare} NLm m d)
        ∗ (tbLoc d ↦{fullShare} TBm m d) ∗ (mkLoc d ↦{fullShare} B0 m d main_v4_0) ∗ (paLoc d ↦{fullShare} B0 m d main_v4_1)) :=
  bigSep_univ_of_subsingleton (0 : Fin 1)
theorem dn0_eq (d : Dev nD) : (bigSep Finset.univ fun c : Fin ((K (F := F)).nCore 0) => (P m).dn 0 d c)
    = iprop((ixLoc d ↦{fullShare} IXm m d) ∗ (mpLoc d ↦{fullShare} MPm m d) ∗ (nlLoc d ↦{fullShare} NLm m d)
        ∗ (tbLoc d ↦{fullShare} TBm m d) ∗ (mkLoc d ↦{fullShare} MKm m d) ∗ (paLoc d ↦{fullShare} PAm m d)) :=
  bigSep_univ_of_subsingleton (0 : Fin 1)

/-- What @main leaves the claim: the arguments as they were, the loss, the mask. -/
abbrev FIN (d : Dev nD) : sProp 𝕄 :=
  iprop((a0Loc d ↦{fullShare} m (a0Loc d)) ∗ (a1Loc d ↦{fullShare} m (a1Loc d)) ∗ (a2Loc d ↦{fullShare} m (a2Loc d))
    ∗ (a3Loc d ↦{fullShare} m (a3Loc d)) ∗ (a4Loc d ↦{fullShare} m (a4Loc d)) ∗ (lsLoc d ↦{fullShare} LSm m d) ∗ (mkLoc d ↦{fullShare} MKm m d))

/-- The TensorCore's handshake state before the first call: its debts, and the rest. -/
theorem tcSt_split (d : Dev nD) :
    ∃ R : sProp 𝕄, (K (F := F)).tcSt EH d 0 = iprop(oweTc (F := F) d ∗ R) := ⟨_, rfl⟩

theorem unscoped_in (d : Dev nD) :
    (unscopedBufs d (fun b => m ((SparseCore.T d).loc b)) : sProp 𝕄) = held (SparseCore.T d) (Pipeline.ucRefs τ sig) (V0 m d) :=
  Pipeline.unscopedBufs_held d (V0 m d)

/-- The arrays where the region is entered, and the others. -/
theorem unscoped_out (d : Dev nD) :
    (held (SparseCore.T d) (Pipeline.ucRefs τ sig) (V3 m d) : sProp 𝕄)
      = iprop(Pipeline.arrBufs spec0 d (B0 m d) ∗ (a0Loc d ↦{fullShare} m (a0Loc d)) ∗ (a1Loc d ↦{fullShare} m (a1Loc d)) ∗ (a2Loc d ↦{fullShare} m (a2Loc d))
        ∗ (a4Loc d ↦{fullShare} m (a4Loc d)) ∗ (mkLoc d ↦{fullShare} B0 m d main_v4_0) ∗ (paLoc d ↦{fullShare} B0 m d main_v4_1)
        ∗ (zrLoc d ↦{fullShare} B0 m d main_cst) ∗ (lsLoc d ↦{fullShare} B0 m d main_v5)) := by
  refine (Pipeline.unscopedBufs_held d (V3 m d)).symm.trans ?_
  refine (Pipeline.unscopedBufs_split₀ (Pipeline.pin (pcfgs (F := F)) adm) 0 launch₀0.win.arr_unscoped d (B0 m d)).trans ?_
  rw [show (Pipeline.unscopedRest (Pipeline.pin (pcfgs (F := F)) adm 0).spec d (B0 m d) : sProp 𝕄) = _ from unscopedRest0_eq d (B0 m d),
    B0_of_ne m d (b := main_arg0) (by decide) (by decide) (by decide), B0_of_ne m d (b := main_arg1) (by decide) (by decide) (by decide),
    B0_of_ne m d (b := main_arg2) (by decide) (by decide) (by decide), B0_of_ne m d (b := main_arg4) (by decide) (by decide) (by decide)]

/-- The arrays where the region is left. -/
theorem region_out (d : Dev nD) :
    (Pipeline.arrBufs spec0 d (B' (B0 m) d) : sProp 𝕄)
      = iprop((wtLoc d ↦{fullShare} WTm m d) ∗ (stLoc d ↦{fullShare} STm m d) ∗ (tauLoc d ↦{fullShare} TAm m d) ∗ (a3Loc d ↦{fullShare} m (a3Loc d))
        ∗ (mpLoc d ↦{fullShare} MPm m d) ∗ (ixLoc d ↦{fullShare} IXm m d) ∗ (nlLoc d ↦{fullShare} NLm m d) ∗ (tbLoc d ↦{fullShare} TBm m d)) := by
  rw [arrBufs0_eq, B'_mp, B'_ix, B'_nl, B'_tb, B'_of_ne (B0 m) d (b := main_v0) (by decide) (by decide) (by decide) (by decide),
    B'_of_ne (B0 m) d (b := main_v1) (by decide) (by decide) (by decide) (by decide), B'_of_ne (B0 m) d (b := main_v2) (by decide) (by decide) (by decide) (by decide),
    B'_of_ne (B0 m) d (b := main_arg3) (by decide) (by decide) (by decide) (by decide), show B0 m d main_arg3 = m (a3Loc d) from PTm_eq m d]

set_option maxRecDepth 8192 in
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  obtain ⟨R, hR⟩ := tcSt_split (F := F) d
  rw [unscoped_in]
  simp only [main, wp_bind, wp_pure]
  iintro ⟨#Hctx, Hst, ⟨Hb, Hheld, Hts, -⟩, Hc, Ht⟩
  iapply (wp_hlo_within 𝒱 (SparseCore.T d) none Set.univ (op := opWT) hWT (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opST) hST (V := (opWT (F := F)).result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := opTA) hTA (V := (opST (F := F)).result ((opWT (F := F)).result (V0 m d)))) $$ [Hb Hheld]
  · isplitl [Hb]; · iexact Hb
    iexact Hheld
  iintro ⟨Hb, Hheld⟩
  rw [wp_ret]; imodintro
  ihave Hh := (show held (SparseCore.T d) (Pipeline.ucRefs τ sig) ((opTA (F := F)).result ((opST (F := F)).result ((opWT (F := F)).result (V0 m d)))) ⊢ _ from
    Entails.of_eq (unscoped_out (F := F) m d)) $$ Hheld
  icases Hh with ⟨Harr, H0, H1, H2, H4, Hmk, Hpa, Hzr, Hls⟩
  -- the first phase
  ihave Hst' := (Entails.of_eq hR) $$ Hst
  icases Hst' with ⟨HO, HR⟩
  ihave #Hlev := (SparseCore.Cfg.ctx_levAts κ) $$ Hctx
  iapply (wp_wand frame _ _ (Q := fun _ => iprop(boundary (SparseCore.T d) ∗ Pipeline.arrBufs spec0 d (B' (B0 m) d) ∗ oweTc (F := F) d))) $$ [Hb Harr HO Hc Ht]
  · iapply (region_step (B0 m) d)
    isplitl [Hb]; · iexact Hb
    isplitl [Harr HO]
    · isplitl [Harr]; · iexact Harr
      iexact HO
    isplitr; · iexact Hlev
    isplitl [Hc]; · iexact Hc
    iexact Ht
  iintro %_ ⟨Hb, Harr, HO⟩
  ihave Ha := (Entails.of_eq (region_out (F := F) m d)) $$ Harr
  icases Ha with ⟨-, -, -, H3, Hmp, Hix, Hnl, Htb⟩
  -- the call
  ihave Hst := (Entails.of_eq hR.symm) $$ [HO HR]
  · isplitl [HO]; · iexact HO
    iexact HR
  iapply ((K (F := F)).wp_run (D (F := F)) 𝒱 (EH := EH) (P := P m) κ d 0) $$ [Hst Hb Hts H0 H1 H2 H3 H4 Hmk Hpa Hzr Hls Hmp Hix Hnl Htb]
  isplitr; · iexact Hctx
  isplitl [Hst]; · iexact Hst
  isplitl [Hmk Hpa Hmp Hix Hnl Htb]
  · rw [st0_eq]
    isplitl [Hix]; · iexact Hix
    isplitl [Hmp]; · iexact Hmp
    isplitl [Hnl]; · iexact Hnl
    isplitl [Htb]; · iexact Htb
    isplitl [Hmk]; · iexact Hmk
    iexact Hpa
  iintro ⟨Hst, Hdn⟩
  ihave Hdn' := (Entails.of_eq (dn0_eq m d)) $$ Hdn
  icases Hdn' with ⟨-, -, -, -, Hmk, Hpa⟩
  -- the sum
  iapply (wp_hlo_within 𝒱 (SparseCore.T d) none Set.univ (op := opZR) (S := S3) hZR (V := V5 m d)) $$ [Hb Hpa Hzr Hls]
  · isplitl [Hb]; · iexact Hb
    rw [held_S3, V5_pa, V5_of_ne m d (b := main_cst) (by decide), V5_of_ne m d (b := main_v5) (by decide)]
    isplitl [Hpa]; · iexact Hpa
    isplitl [Hzr]; · iexact Hzr
    iexact Hls
  iintro ⟨Hb, Hheld⟩
  rw [wp_ret]; imodintro
  iapply (wp_hlo_within 𝒱 (SparseCore.T d) none Set.univ (op := opLS) (S := S3) hLS (V := (opZR (F := F)).result (V5 m d))) $$ [Hb Hheld]
  · isplitl [Hb]; · iexact Hb
    iexact Hheld
  iintro ⟨Hb, Hheld⟩
  ihave Hh := (Entails.of_eq (held_S3 (F := F) d _)) $$ Hheld
  icases Hh with ⟨-, -, Hls⟩
  ihave Hls' := (Entails.of_eq (congrArg (fun z => (lsLoc d ↦{fullShare} z : sProp 𝕄)) (V7_ls (F := F) m d))) $$ Hls
  rw [wp_ret]; imodintro; imodintro
  isplitl [Hst]; · iexact Hst
  isplitr [Hb Hts]
  · isplitl [H0]; · iexact H0
    isplitl [H1]; · iexact H1
    isplitl [H2]; · iexact H2
    isplitl [H3]; · iexact H3
    isplitl [H4]; · iexact H4
    isplitl [Hls']; · iexact Hls'
    iexact Hmk
  isplitl [Hb]; · iexact Hb
  iexact Hts

/-! ## The run -/

def fq (d : Dev nD) (s' : Phys nD τ sig (Elt F)) : Prop :=
  s'.mem.mem (a0Loc d) = m (a0Loc d) ∧ s'.mem.mem (a1Loc d) = m (a1Loc d) ∧ s'.mem.mem (a2Loc d) = m (a2Loc d) ∧ s'.mem.mem (a3Loc d) = m (a3Loc d)
    ∧ s'.mem.mem (a4Loc d) = m (a4Loc d) ∧ s'.mem.mem (lsLoc d) = LSm m d ∧ s'.mem.mem (mkLoc d) = MKm m d

/-- What is held whole is what the memory holds. -/
theorem agree (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr; · ipureintro; exact funext fun i => h i (Finset.mem_univ i)
  iexact HSI

set_option maxRecDepth 16384 in
theorem hfin (d : Dev nD) (s' : Phys nD τ sig (Elt F)) : iprop(FIN m d ∗ SI s') ⊢ (⌜fq m d s'⌝ : sProp 𝕄) := by
  iintro ⟨⟨H0, H1, H2, H3, H4, Hl, Hk⟩, HSI⟩
  ihave H := (agree s' (a0Loc d) _) $$ [H0 HSI]
  · isplitl [H0] <;> iassumption
  icases H with ⟨%h0, HSI⟩
  ihave H := (agree s' (a1Loc d) _) $$ [H1 HSI]
  · isplitl [H1] <;> iassumption
  icases H with ⟨%h1, HSI⟩
  ihave H := (agree s' (a2Loc d) _) $$ [H2 HSI]
  · isplitl [H2] <;> iassumption
  icases H with ⟨%h2, HSI⟩
  ihave H := (agree s' (a3Loc d) _) $$ [H3 HSI]
  · isplitl [H3] <;> iassumption
  icases H with ⟨%h3, HSI⟩
  ihave H := (agree s' (a4Loc d) _) $$ [H4 HSI]
  · isplitl [H4] <;> iassumption
  icases H with ⟨%h4, HSI⟩
  ihave H := (agree s' (lsLoc d) _) $$ [Hl HSI]
  · isplitl [Hl] <;> iassumption
  icases H with ⟨%hl, HSI⟩
  ihave H := (agree s' (mkLoc d) _) $$ [Hk HSI]
  · isplitl [Hk] <;> iassumption
  icases H with ⟨%hk, -⟩
  ipureintro; exact ⟨h0, h1, h2, h3, h4, hl, hk⟩

/-- How the run ends: the arguments as they were, the loss, the mask, every semaphore at zero. -/
def QC : PUnit × MemSt nD τ sig (Elt F) → Prop := fun r =>
  (∀ c : Dev nD, r.2.mem (a0Loc c) = m (a0Loc c) ∧ r.2.mem (a1Loc c) = m (a1Loc c) ∧ r.2.mem (a2Loc c) = m (a2Loc c) ∧ r.2.mem (a3Loc c) = m (a3Loc c)
    ∧ r.2.mem (a4Loc c) = m (a4Loc c) ∧ r.2.mem (lsLoc c) = LSm m c ∧ r.2.mem (mkLoc c) = MKm m c) ∧ r.2.sem = fun _ => 0

theorem run_main' [∀ e, Nonempty (Elt F e)] (hIX : ∀ d j, (IXm m d j).toNat < 1024) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hIX)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h hz => ⟨h, hz⟩)

end Cert.Proof.KI

end
-- ==== Proof.IdxBound.lean ====
/-
  The places that the TensorCore phase writes are below 1024 whatever the floats are: each is a least element of a
  column of words none of which is above 1000.
-/
module

public import proofs.«01_k».proof.Proof.Main

@[expose] public section

noncomputable section

namespace Cert.Proof.KI

open Cert.KernelIdeal Cert.KernelIdeal.Gen
open Idealize.ShloMosaic
open Idealize.ShloMosaic.ValueIdx (ix1 ix2)

variable {F : FTy → Type} [FloatOps F]

/-- The signed least of two words without a sign bit is the least of their values. -/
theorem minsi_toNat (x y : BitVec 32) (hx : x.toNat < 2 ^ 31) (hy : y.toNat < 2 ^ 31) :
    (IntOp.minsi x y).toNat = min x.toNat y.toNat := by
  have e : x.slt y = decide (x.toNat < y.toNat) := by
    rw [BitVec.slt_eq_decide, BitVec.toInt_eq_toNat_cond, BitVec.toInt_eq_toNat_cond, if_pos (by omega), if_pos (by omega)]
    simp
  unfold IntOp.minsi
  rw [e]
  by_cases h : x.toNat < y.toNat
  · simp [h]; omega
  · simp [h]; omega

/-- The signed least of a set of words without sign bits, from the greatest word. -/
theorem fold_minsi_toNat {ι : Type} [DecidableEq ι] (s : Finset ι) (f : ι → BitVec 32) (hf : ∀ i, (f i).toNat < 2 ^ 31) :
    (s.fold IntOp.minsi 2147483647#32 f).toNat = s.fold min 2147483647 (fun i => (f i).toNat)
      ∧ s.fold min 2147483647 (fun i => (f i).toNat) < 2 ^ 31 := by
  induction s using Finset.induction_on with
  | empty => exact ⟨rfl, by simp⟩
  | insert a s ha ih =>
      rw [Finset.fold_insert ha, Finset.fold_insert ha]
      refine ⟨?_, ?_⟩
      · rw [minsi_toNat _ _ (hf a) (by rw [ih.1]; exact ih.2), ih.1]
      · exact lt_of_le_of_lt (min_le_left _ _) (hf a)

/-- The column of words whose least is taken: the row where the entry is the column's largest, else 1000. -/
def candW (w : Vec F S1000x512 .f32) : IVec S1000x512 32 :=
  select (cmpf .oeq (k0_pay2 w) (broadcastTo S1000x512 (k0_pay5 w) broadcasts_S1x512_S1000x512))
    (iota .tc S1000x512 32 [0] iota_S1000x512_d0_w32) (broadcast S1000x512 1000#32)

theorem candW_apply (w : Vec F S1000x512 .f32) (i : S1000x512.Idx) :
    candW w i = if FloatOps.cmpf .oeq (k0_pay2 w i) (broadcastTo S1000x512 (k0_pay5 w) broadcasts_S1x512_S1000x512 i) = 1#1
      then BitVec.ofNat 32 (i 0).val else 1000#32 := by
  have hi : iota .tc S1000x512 32 [0] iota_S1000x512_d0_w32 i = BitVec.ofNat 32 (i 0).val := by
    show BitVec.ofNat 32 _ = _
    congr 1
    simp
  rw [← hi]
  rfl

theorem candW_le (w : Vec F S1000x512 .f32) (i : S1000x512.Idx) : (candW w i).toNat ≤ 1000 := by
  rw [candW_apply]
  have : (i 0).val < 1000 := (i 0).isLt
  split
  · rw [BitVec.toNat_ofNat, Nat.mod_eq_of_lt (by omega)]; omega
  · simp

/-- A place is the least of its column of candidates. -/
theorem pay6_toNat (w : Vec F S1000x512 .f32) (j : S512.Idx) :
    (k0_pay6 w j).toNat = (Finset.univ : Finset (Fin 1000)).fold min 2147483647
      (fun k => (candW w (reduces_S1000x512_S512.lift j k)).toNat) := by
  have e : k0_pay6 w j = (Finset.univ : Finset (Fin 1000)).fold IntOp.minsi 2147483647#32
      (candW w ∘ reduces_S1000x512_S512.lift j) :=
    (multiReductionI_eq_fold .minsi (candW w) 2147483647#32 reduces_S1000x512_S512 rfl j).trans
      (reduces_S1000x512_S512.fold_filter_drop_single IntOp.minsi _ _ j)
  exact (congrArg BitVec.toNat e).trans (fold_minsi_toNat (ι := Fin 1000) Finset.univ
    (fun k => candW w (reduces_S1000x512_S512.lift j k)) fun k => lt_of_le_of_lt (candW_le w _) (by norm_num)).1

theorem pay6_le (w : Vec F S1000x512 .f32) (j : S512.Idx) : (k0_pay6 w j).toNat ≤ 1000 := by
  rw [pay6_toNat]
  exact (Finset.fold_min_le _).mpr (.inr ⟨⟨0, by norm_num⟩, Finset.mem_univ _, candW_le w _⟩)

theorem ixBlk_le (WT : Vec F S1000x16384 .f32) (t : ℕ) (y : S1024.Idx) : (ixBlk WT t y).toNat ≤ 1000 := by
  unfold ixBlk cat
  split
  · exact pay6_le _ _
  · exact pay6_le _ _

variable (m : (ℓ : Loc nD τ sig) → Buf (Elt F) ℓ) (ρ : Dev nD → PrngReg)

theorem IXm_lt (d : Dev nD) (j : S16384.Idx) : (IXm m d j).toNat < 1024 :=
  lt_of_le_of_lt (ixBlk_le (WTm m d) _ _) (by norm_num)

/-- The run with its two results, from any memory. -/
theorem run_main [∀ e, Nonempty (Elt F e)] :
    θ_run (Cert.KernelIdeal.defs (F := F)) (Cert.KernelIdeal.threads (F := F)) ⟨m, fun _ => 0, ρ⟩ (QC m) :=
  run_main' m ρ (IXm_lt m)

end Cert.Proof.KI

end
-- ==== Proof.RefRun.lean ====
/-
  The reference's run: its host operations in eight stretches, the value that each stretch leaves as a function of the
  values it reads, and the two results as functions of the arguments.
-/
module

public import proofs.«01_k».proof.Defs
public import proofs.«01_k».proof.Proof.Gen.ReferenceIdeal
public import Idealize.ShloMosaic.Lib.Claim
public import Idealize.ShloMosaic.Lib.StableHlo.RunRead

@[expose] public section

noncomputable section

namespace Cert.Proof.RI

open Cert.ReferenceIdeal Cert.ReferenceIdeal.Gen
open Idealize.ShloMosaic Idealize.ShloMosaic.TcCoe Idealize.SL.Sem
open Idealize.ShloMosaic.StableHlo

variable {F : FTy → Type} [FloatOps F]

/-! ## The values -/

/-- The largest entry of each row. -/
def vMax (x : Vec F S16384x1000 .f32) : Vec F S16384 .f32 :=
  Host.reduce FloatOps.maximumf x (constant S_ .f32 0xFF800000#32) reducesTo_S16384x1000_S16384_d1 h_S_
/-- The largest entry of each row, not below minus infinity. -/
def vTop (x : Vec F S16384x1000 .f32) : Vec F S16384 .f32 :=
  maximumf (broadcastInDim S16384 ![] bcast_S_S16384 (constant S_ .f32 0xFF800000#32)) (vMax x)
/-- A value per row, along the row. -/
def vSpread (y : Vec F S16384 .f32) : Vec F S16384x1000 .f32 :=
  broadcastInDim S16384x1000 ![0, 1] bcast_S16384x1_S16384x1000_0_1 (broadcastInDim S16384x1 ![0] bcast_S16384_S16384x1_0 y)
/-- The entries less their row's largest. -/
def vSub (x : Vec F S16384x1000 .f32) : Vec F S16384x1000 .f32 := subf x (vSpread (vTop x))
/-- The sums of the exponentials of the rows. -/
def vSum (x : Vec F S16384x1000 .f32) : Vec F S16384 .f32 :=
  Host.reduceAdd (Host.exp (vSub x)) (constant S_ .f32 0x00000000#32) reducesTo_S16384x1000_S16384_d1 h_S_
/-- Softmax. -/
def vProb (x : Vec F S16384x1000 .f32) : Vec F S16384x1000 .f32 := Host.divf (Host.exp (vSub x)) (vSpread (vSum x))
/-- The places of the largest entries. -/
def vIdx (p : Vec F S16384x1000 .f32) : Vec F S16384 .i32 := fun j =>
  (Host.argReduce reducer_argmax_f32_i32 p (iotaInDim S16384x1000 32 1) (constant S_ .f32 0xFF800000#32) (constantI S_ 32 0#32)
    reducesTo_S16384x1000_S16384_d1 h_S_ j).2
/-- The running threshold. -/
def vTau (t : Vec F S_ .f32) (mp : Vec F S16384 .f32) : Vec F S_ .f32 :=
  addf (mulf t (constant S_ .f32 0x3F7FBE77#32)) (mulf (constant S_ .f32 0x3A83126F#32)
    (Host.divf (Host.reduceAdd mp (constant S_ .f32 0x00000000#32) reducesTo_S16384_S_d0 h_S_) (constant S_ .f32 0x46800000#32)))
/-- A constant of the classes. -/
def vC (b : BitVec 32) : Vec F S1000 .f32 := broadcastInDim S1000 ![] bcast_S_S1000 (constant S_ .f32 b)
/-- The running probabilities of the classes. -/
def vP (q : Vec F S1000 .f32) (p : Vec F S16384x1000 .f32) : Vec F S1000 .f32 :=
  addf (mulf q (vC 0x3F7FBE77#32)) (mulf (vC 0x3A83126F#32)
    (Host.divf (Host.reduceAdd p (constant S_ .f32 0x00000000#32) reducesTo_S16384x1000_S1000_d0 h_S_) (vC 0x46800000#32)))
/-- The classes' shares of the largest of them. -/
def vShare (v : Vec F S1000 .f32) : Vec F S1000 .f32 :=
  Host.divf v (broadcastInDim S1000 ![] bcast_S_S1000
    (Host.reduce FloatOps.maximumf v (constant S_ .f32 0xFF800000#32) reducesTo_S1000_S_d0 h_S_))
/-- A place, counted from the end where it is negative. -/
def vWrap (ix : Vec F S16384 .i32) : Vec F S16384 .i32 :=
  select (cmpi .slt ix (broadcastInDim S16384 ![] bcast_S_S16384 (constantI S_ 32 0#32)))
    (addi ix (broadcastInDim S16384 ![] bcast_S_S16384 (constantI S_ 32 1000#32))) ix
/-- The mask. -/
def vMask (mp : Vec F S16384 .f32) (ix : Vec F S16384 .i32) (t : Vec F S_ .f32) (sh : Vec F S1000 .f32) : Vec F S16384 .f32 :=
  uitofp .f32 (cmpf .oge mp (mulf (broadcastInDim S16384 ![] bcast_S_S16384 t)
    (Host.gather gather_S1000_S16384x1_S16384_n_0_n_n_0_1_1 sh (broadcastInDim S16384x1 ![0] bcast_S16384_S16384x1_0 (vWrap (F := F) ix)))))
/-- The log-probabilities. -/
def vLog (x : Vec F S16384x1000 .f32) : Vec F S16384x1000 .f32 :=
  subf (vSub x) (broadcastInDim S16384x1000 ![0, 1] bcast_S16384x1_S16384x1000_0_1
    (Host.log (broadcastInDim S16384x1 ![0] bcast_S16384_S16384x1_0 (vSum x))))
/-- The places of one column, counted from the end where negative, with one more axis. -/
def vAt (ix : Vec F S16384x1 .i32) : Vec F S16384x1x1 .i32 :=
  shapeCast S16384x1x1 (select (cmpi .slt ix (broadcastInDim S16384x1 ![] bcast_S_S16384x1 (constantI S_ 32 0#32)))
    (addi ix (broadcastInDim S16384x1 ![] bcast_S_S16384x1 (constantI S_ 32 1000#32))) ix) shapeCasts_S16384x1_S16384x1x1
/-- Which places lie in their row. -/
def vIn (v : Vec F S16384x1x1 .i32) : Vec F S16384x1 .i1 :=
  Host.reduce IntOp.andi (andi (cmpi .sge v (broadcastInDim S16384x1x1 ![] bcast_S_S16384x1x1 (constantI S_ 32 0#32)))
      (cmpi .sle v (broadcastInDim S16384x1x1 ![0, 1, 2] bcast_S1x1x1_S16384x1x1_0_1_2
        (broadcastInDim S1x1x1 ![2] bcast_S1_S1x1x1_2 (constantI S1 32 999#32)))))
    (constantI S_ 1 1#1) reducesTo_S16384x1x1_S16384x1_d2 h_S_
/-- The entries at the places. -/
def vTake (l : Vec F S16384x1000 .f32) (v : Vec F S16384x1x1 .i32) : Vec F S16384x1 .f32 :=
  select (vIn (F := F) v) (Host.gather gather_S16384x1000_S16384x1x1_S16384x1_n_1_0_0_1_2_11 l v)
    (broadcastInDim S16384x1 ![] bcast_S_S16384x1 (constant S_ .f32 0x7FC00000#32))
/-- The negated log-probabilities at the places. -/
def vNll (l : Vec F S16384x1000 .f32) (ix : Vec F S16384 .i32) : Vec F S16384 .f32 :=
  Host.negf (shapeCast S16384 (vTake l (vAt (F := F) (broadcastInDim S16384x1 ![0] bcast_S16384_S16384x1_0 ix))) shapeCasts_S16384x1_S16384)
/-- The loss. -/
def vLoss (nl mk : Vec F S16384 .f32) : Vec F S_ .f32 :=
  Host.divf (Host.reduceAdd (mulf nl mk) (constant S_ .f32 0x00000000#32) reducesTo_S16384_S_d0 h_S_) (constant S_ .f32 0x46800000#32)

/-! ## The operations -/

/-- Softmax and its largest entries. -/
def opsA : List (HloOp τ sig (Elt F)) := [
  StableHlo.nullary main_cst (constant S_ .f32 0xFF800000#32),
  StableHlo.binary main_arg0 main_cst main_v0 ((fun x v => Host.reduce FloatOps.maximumf x v reducesTo_S16384x1000_S16384_d1 h_S_) : (⟨S16384x1000, .f32⟩ : BufTy).Contents (Elt F) → (⟨S_, .f32⟩ : BufTy).Contents (Elt F) → (⟨S16384, .f32⟩ : BufTy).Contents (Elt F)),
  StableHlo.nullary main_cst_0 (constant S_ .f32 0xFF800000#32),
  StableHlo.unary main_cst_0 main_v1 (broadcastInDim S16384 ![] bcast_S_S16384 : (⟨S_, .f32⟩ : BufTy).Contents (Elt F) → (⟨S16384, .f32⟩ : BufTy).Contents (Elt F)),
  StableHlo.binary main_v1 main_v0 main_v2 (maximumf : (⟨S16384, .f32⟩ : BufTy).Contents (Elt F) → (⟨S16384, .f32⟩ : BufTy).Contents (Elt F) → (⟨S16384, .f32⟩ : BufTy).Contents (Elt F)),
  StableHlo.unary main_v2 main_v3 (broadcastInDim S16384x1 ![0] bcast_S16384_S16384x1_0 : (⟨S16384, .f32⟩ : BufTy).Contents (Elt F) → (⟨S16384x1, .f32⟩ : BufTy).Contents (Elt F)),
  StableHlo.unary main_v3 main_v4 (broadcastInDim S16384x1000 ![0, 1] bcast_S16384x1_S16384x1000_0_1 : (⟨S16384x1, .f32⟩ : BufTy).Contents (Elt F) → (⟨S16384x1000, .f32⟩ : BufTy).Contents (Elt F)),
  StableHlo.binary main_arg0 main_v4 main_v5 (subf : (⟨S16384x1000, .f32⟩ : BufTy).Contents (Elt F) → (⟨S16384x1000, .f32⟩ : BufTy).Contents (Elt F) → (⟨S16384x1000, .f32⟩ : BufTy).Contents (Elt F)),
  StableHlo.unary main_v5 main_v6 (Host.exp : (⟨S16384x1000, .f32⟩ : BufTy).Contents (Elt F) → (⟨S16384x1000, .f32⟩ : BufTy).Contents (Elt F)),
  StableHlo.nullary main_cst_1 (constant S_ .f32 0x00000000#32),
  StableHlo.binary main_v6 main_cst_1 main_v7 ((fun x v => Host.reduceAdd x v reducesTo_S16384x1000_S16384_d1 h_S_) : (⟨S16384x1000, .f32⟩ : BufTy).Contents (Elt F) → (⟨S_, .f32⟩ : BufTy).Contents (Elt F) → (⟨S16384, .f32⟩ : BufTy).Contents (Elt F)),
  StableHlo.unary main_v7 main_v8 (broadcastInDim S16384x1 ![0] bcast_S16384_S16384x1_0 : (⟨S16384, .f32⟩ : BufTy).Contents (Elt F) → (⟨S16384x1, .f32⟩ : BufTy).Contents (Elt F)),
  StableHlo.unary main_v8 main_v9 (broadcastInDim S16384x1000 ![0, 1] bcast_S16384x1_S16384x1000_0_1 : (⟨S16384x1, .f32⟩ : BufTy).Contents (Elt F) → (⟨S16384x1000, .f32⟩ : BufTy).Contents (Elt F)),
  StableHlo.binary main_v6 main_v9 main_v10 (Host.divf : (⟨S16384x1000, .f32⟩ : BufTy).Contents (Elt F) → (⟨S16384x1000, .f32⟩ : BufTy).Contents (Elt F) → (⟨S16384x1000, .f32⟩ : BufTy).Contents (Elt F)),
  StableHlo.nullary main_cst_2 (constant S_ .f32 0xFF800000#32),
  StableHlo.binary main_v10 main_cst_2 main_v11 ((fun x v => Host.reduce FloatOps.maximumf x v reducesTo_S16384x1000_S16384_d1 h_S_) : (⟨S16384x1000, .f32⟩ : BufTy).Contents (Elt F) → (⟨S_, .f32⟩ : BufTy).Contents (Elt F) → (⟨S16384, .f32⟩ : BufTy).Contents (Elt F))]

/-- The places of the largest entries. -/
def opsB : List (HloOp τ sig (Elt F)) := [
  StableHlo.TRef.nullary main_call0.v0 (iotaInDim S16384x1000 32 1),
  StableHlo.TRef.nullary main_call0.cst (constant S_ .f32 0xFF800000#32),
  StableHlo.TRef.nullary main_call0.c (constantI S_ 32 0#32),
  StableHlo.TRef.quaternary (.of main_v10) main_call0.v0 main_call0.cst main_call0.c main_call0.v1_0 (fun x y u v j => (Host.argReduce reducer_argmax_f32_i32 x y u v reducesTo_S16384x1000_S16384_d1 h_S_ j).1),
  StableHlo.TRef.quaternary (.of main_v10) main_call0.v0 main_call0.cst main_call0.c main_call0.v1_1 (fun x y u v j => (Host.argReduce reducer_argmax_f32_i32 x y u v reducesTo_S16384x1000_S16384_d1 h_S_ j).2)]

/-- The running threshold. -/
def opsC : List (HloOp τ sig (Elt F)) := [
  StableHlo.nullary main_cst_3 (constant S_ .f32 0x3F7FBE77#32),
  StableHlo.binary main_arg2 main_cst_3 main_v13 (mulf : (⟨S_, .f32⟩ : BufTy).Contents (Elt F) → (⟨S_, .f32⟩ : BufTy).Contents (Elt F) → (⟨S_, .f32⟩ : BufTy).Contents (Elt F)),
  StableHlo.nullary main_cst_4 (constant S_ .f32 0x00000000#32),
  StableHlo.binary main_v11 main_cst_4 main_v14 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
  StableHlo.nullary main_cst_5 (constant S_ .f32 0x46800000#32),
  StableHlo.binary main_v14 main_cst_5 main_v15 (Host.divf : (⟨S_, .f32⟩ : BufTy).Contents (Elt F) → (⟨S_, .f32⟩ : BufTy).Contents (Elt F) → (⟨S_, .f32⟩ : BufTy).Contents (Elt F)),
  StableHlo.nullary main_cst_6 (constant S_ .f32 0x3A83126F#32),
  StableHlo.binary main_cst_6 main_v15 main_v16 (mulf : (⟨S_, .f32⟩ : BufTy).Contents (Elt F) → (⟨S_, .f32⟩ : BufTy).Contents (Elt F) → (⟨S_, .f32⟩ : BufTy).Contents (Elt F)),
  StableHlo.binary main_v13 main_v16 main_v17 (addf : (⟨S_, .f32⟩ : BufTy).Contents (Elt F) → (⟨S_, .f32⟩ : BufTy).Contents (Elt F) → (⟨S_, .f32⟩ : BufTy).Contents (Elt F))]

/-- The thresholds of the classes. -/
def opsD : List (HloOp τ sig (Elt F)) := [
  StableHlo.nullary main_cst_7 (constant S_ .f32 0x3F7FBE77#32),
  StableHlo.unary main_cst_7 main_v18 (broadcastInDim S1000 ![] bcast_S_S1000 : (⟨S_, .f32⟩ : BufTy).Contents (Elt F) → (⟨S1000, .f32⟩ : BufTy).Contents (Elt F)),
  StableHlo.binary main_arg3 main_v18 main_v19 (mulf : (⟨S1000, .f32⟩ : BufTy).Contents (Elt F) → (⟨S1000, .f32⟩ : BufTy).Contents (Elt F) → (⟨S1000, .f32⟩ : BufTy).Contents (Elt F)),
  StableHlo.nullary main_cst_8 (constant S_ .f32 0x00000000#32),
  StableHlo.binary main_v10 main_cst_8 main_v20 ((fun x v => Host.reduceAdd x v reducesTo_S16384x1000_S1000_d0 h_S_) : (⟨S16384x1000, .f32⟩ : BufTy).Contents (Elt F) → (⟨S_, .f32⟩ : BufTy).Contents (Elt F) → (⟨S1000, .f32⟩ : BufTy).Contents (Elt F)),
  StableHlo.nullary main_cst_9 (constant S_ .f32 0x46800000#32),
  StableHlo.unary main_cst_9 main_v21 (broadcastInDim S1000 ![] bcast_S_S1000 : (⟨S_, .f32⟩ : BufTy).Contents (Elt F) → (⟨S1000, .f32⟩ : BufTy).Contents (Elt F)),
  StableHlo.binary main_v20 main_v21 main_v22 (Host.divf : (⟨S1000, .f32⟩ : BufTy).Contents (Elt F) → (⟨S1000, .f32⟩ : BufTy).Contents (Elt F) → (⟨S1000, .f32⟩ : BufTy).Contents (Elt F)),
  StableHlo.nullary main_cst_10 (constant S_ .f32 0x3A83126F#32),
  StableHlo.unary main_cst_10 main_v23 (broadcastInDim S1000 ![] bcast_S_S1000 : (⟨S_, .f32⟩ : BufTy).Contents (Elt F) → (⟨S1000, .f32⟩ : BufTy).Contents (Elt F)),
  StableHlo.binary main_v23 main_v22 main_v24 (mulf : (⟨S1000, .f32⟩ : BufTy).Contents (Elt F) → (⟨S1000, .f32⟩ : BufTy).Contents (Elt F) → (⟨S1000, .f32⟩ : BufTy).Contents (Elt F)),
  StableHlo.binary main_v19 main_v24 main_v25 (addf : (⟨S1000, .f32⟩ : BufTy).Contents (Elt F) → (⟨S1000, .f32⟩ : BufTy).Contents (Elt F) → (⟨S1000, .f32⟩ : BufTy).Contents (Elt F)),
  StableHlo.nullary main_cst_11 (constant S_ .f32 0xFF800000#32),
  StableHlo.binary main_v25 main_cst_11 main_v26 ((fun x v => Host.reduce FloatOps.maximumf x v reducesTo_S1000_S_d0 h_S_) : (⟨S1000, .f32⟩ : BufTy).Contents (Elt F) → (⟨S_, .f32⟩ : BufTy).Contents (Elt F) → (⟨S_, .f32⟩ : BufTy).Contents (Elt F)),
  StableHlo.unary main_v26 main_v27 (broadcastInDim S1000 ![] bcast_S_S1000 : (⟨S_, .f32⟩ : BufTy).Contents (Elt F) → (⟨S1000, .f32⟩ : BufTy).Contents (Elt F)),
  StableHlo.binary main_v25 main_v27 main_v28 (Host.divf : (⟨S1000, .f32⟩ : BufTy).Contents (Elt F) → (⟨S1000, .f32⟩ : BufTy).Contents (Elt F) → (⟨S1000, .f32⟩ : BufTy).Contents (Elt F))]

/-- The mask. -/
def opsE : List (HloOp τ sig (Elt F)) := [
  StableHlo.nullary main_c (constantI S_ 32 0#32),
  StableHlo.unary main_c main_v29 (broadcastInDim S16384 ![] bcast_S_S16384 : (⟨S_, .i32⟩ : BufTy).Contents (Elt F) → (⟨S16384, .i32⟩ : BufTy).Contents (Elt F)),
  StableHlo.binary main_v12 main_v29 main_v30 (cmpi .slt : (⟨S16384, .i32⟩ : BufTy).Contents (Elt F) → (⟨S16384, .i32⟩ : BufTy).Contents (Elt F) → (⟨S16384, .i1⟩ : BufTy).Contents (Elt F)),
  StableHlo.nullary main_c_12 (constantI S_ 32 1000#32),
  StableHlo.unary main_c_12 main_v31 (broadcastInDim S16384 ![] bcast_S_S16384 : (⟨S_, .i32⟩ : BufTy).Contents (Elt F) → (⟨S16384, .i32⟩ : BufTy).Contents (Elt F)),
  StableHlo.binary main_v12 main_v31 main_v32 (addi : (⟨S16384, .i32⟩ : BufTy).Contents (Elt F) → (⟨S16384, .i32⟩ : BufTy).Contents (Elt F) → (⟨S16384, .i32⟩ : BufTy).Contents (Elt F)),
  StableHlo.ternary main_v30 main_v32 main_v12 main_v33 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
  StableHlo.unary main_v33 main_v34 (broadcastInDim S16384x1 ![0] bcast_S16384_S16384x1_0 : (⟨S16384, .i32⟩ : BufTy).Contents (Elt F) → (⟨S16384x1, .i32⟩ : BufTy).Contents (Elt F)),
  StableHlo.binary main_v28 main_v34 main_v35 ((fun x i => Host.gather gather_S1000_S16384x1_S16384_n_0_n_n_0_1_1 x i) : (⟨S1000, .f32⟩ : BufTy).Contents (Elt F) → (⟨S16384x1, .i32⟩ : BufTy).Contents (Elt F) → (⟨S16384, .f32⟩ : BufTy).Contents (Elt F)),
  StableHlo.unary main_v17 main_v36 (broadcastInDim S16384 ![] bcast_S_S16384 : (⟨S_, .f32⟩ : BufTy).Contents (Elt F) → (⟨S16384, .f32⟩ : BufTy).Contents (Elt F)),
  StableHlo.binary main_v36 main_v35 main_v37 (mulf : (⟨S16384, .f32⟩ : BufTy).Contents (Elt F) → (⟨S16384, .f32⟩ : BufTy).Contents (Elt F) → (⟨S16384, .f32⟩ : BufTy).Contents (Elt F)),
  StableHlo.binary main_v11 main_v37 main_v38 (cmpf .oge : (⟨S16384, .f32⟩ : BufTy).Contents (Elt F) → (⟨S16384, .f32⟩ : BufTy).Contents (Elt F) → (⟨S16384, .i1⟩ : BufTy).Contents (Elt F)),
  StableHlo.unary main_v38 main_v39 (uitofp .f32 : (⟨S16384, .i1⟩ : BufTy).Contents (Elt F) → (⟨S16384, .f32⟩ : BufTy).Contents (Elt F))]

/-- The log-probabilities. -/
def opsF : List (HloOp τ sig (Elt F)) := [
  StableHlo.TRef.nullary main_call1.cst (constant S_ .f32 0xFF800000#32),
  StableHlo.TRef.binary (.of main_arg1 : TRef sig ⟨S16384x1000, .f32⟩) main_call1.cst main_call1.v0 (fun x v => Host.reduce FloatOps.maximumf x v reducesTo_S16384x1000_S16384_d1 h_S_),
  StableHlo.TRef.nullary main_call1.cst_0 (constant S_ .f32 0xFF800000#32),
  StableHlo.TRef.unary main_call1.cst_0 main_call1.v1 (broadcastInDim S16384 ![] bcast_S_S16384),
  StableHlo.TRef.binary main_call1.v1 main_call1.v0 main_call1.v2 maximumf,
  StableHlo.TRef.unary main_call1.v2 main_call1.v3 (broadcastInDim S16384x1 ![0] bcast_S16384_S16384x1_0),
  StableHlo.TRef.unary main_call1.v3 main_call1.v4 (broadcastInDim S16384x1000 ![0, 1] bcast_S16384x1_S16384x1000_0_1),
  StableHlo.TRef.binary (.of main_arg1 : TRef sig ⟨S16384x1000, .f32⟩) main_call1.v4 main_call1.v5 subf,
  StableHlo.TRef.unary main_call1.v5 main_call1.v6 Host.exp,
  StableHlo.TRef.nullary main_call1.cst_1 (constant S_ .f32 0x00000000#32),
  StableHlo.TRef.binary main_call1.v6 main_call1.cst_1 main_call1.v7 (fun x v => Host.reduceAdd x v reducesTo_S16384x1000_S16384_d1 h_S_),
  StableHlo.TRef.unary main_call1.v7 main_call1.v8 (broadcastInDim S16384x1 ![0] bcast_S16384_S16384x1_0),
  StableHlo.TRef.unary main_call1.v8 main_call1.v9 Host.log,
  StableHlo.TRef.unary main_call1.v9 main_call1.v10 (broadcastInDim S16384x1000 ![0, 1] bcast_S16384x1_S16384x1000_0_1),
  StableHlo.TRef.binary main_call1.v5 main_call1.v10 main_call1.v11 subf]

/-- Their entries at the places, negated. -/
def opsG : List (HloOp τ sig (Elt F)) := [
  StableHlo.unary main_v12 main_v41 (broadcastInDim S16384x1 ![0] bcast_S16384_S16384x1_0 : (⟨S16384, .i32⟩ : BufTy).Contents (Elt F) → (⟨S16384x1, .i32⟩ : BufTy).Contents (Elt F)),
  StableHlo.TRef.nullary main_call2.c (constantI S_ 32 0#32),
  StableHlo.TRef.unary main_call2.c main_call2.v0 (broadcastInDim S16384x1 ![] bcast_S_S16384x1),
  StableHlo.TRef.binary (.of main_v41) main_call2.v0 main_call2.v1 (cmpi .slt),
  StableHlo.TRef.nullary main_call2.c_0 (constantI S_ 32 1000#32),
  StableHlo.TRef.unary main_call2.c_0 main_call2.v2 (broadcastInDim S16384x1 ![] bcast_S_S16384x1),
  StableHlo.TRef.binary (.of main_v41) main_call2.v2 main_call2.v3 addi,
  StableHlo.TRef.ternary main_call2.v1 main_call2.v3 (.of main_v41) main_call2.v4 select,
  StableHlo.TRef.reshape main_call2.v4 main_call2.v5 (rfl : (.i32 : EltTy) = .i32) shapeCasts_S16384x1_S16384x1x1,
  StableHlo.TRef.nullary main_call2.c_1 (constantI S1 32 999#32),
  StableHlo.TRef.nullary main_call2.c_2 (constantI S_ 32 0#32),
  StableHlo.TRef.unary main_call2.c_2 main_call2.v6 (broadcastInDim S16384x1x1 ![] bcast_S_S16384x1x1),
  StableHlo.TRef.binary main_call2.v5 main_call2.v6 main_call2.v7 (cmpi .sge),
  StableHlo.TRef.unary main_call2.c_1 main_call2.v8 (broadcastInDim S1x1x1 ![2] bcast_S1_S1x1x1_2),
  StableHlo.TRef.unary main_call2.v8 main_call2.v9 (broadcastInDim S16384x1x1 ![0, 1, 2] bcast_S1x1x1_S16384x1x1_0_1_2),
  StableHlo.TRef.binary main_call2.v5 main_call2.v9 main_call2.v10 (cmpi .sle),
  StableHlo.TRef.binary main_call2.v7 main_call2.v10 main_call2.v11 andi,
  StableHlo.TRef.nullary main_call2.c_3 (constantI S_ 1 1#1),
  StableHlo.TRef.binary main_call2.v11 main_call2.c_3 main_call2.v12 (fun x v => Host.reduce IntOp.andi x v reducesTo_S16384x1x1_S16384x1_d2 h_S_),
  StableHlo.TRef.binary (.of main_v40) main_call2.v5 main_call2.v13 (fun x i => Host.gather gather_S16384x1000_S16384x1x1_S16384x1_n_1_0_0_1_2_11 x i),
  StableHlo.TRef.nullary main_call2.cst (constant S_ .f32 0x7FC00000#32),
  StableHlo.TRef.unary main_call2.cst main_call2.v14 (broadcastInDim S16384x1 ![] bcast_S_S16384x1),
  StableHlo.TRef.ternary main_call2.v12 main_call2.v13 main_call2.v14 main_call2.v15 select,
  StableHlo.reshape main_v42 main_v43 (rfl : (.f32 : EltTy) = .f32) shapeCasts_S16384x1_S16384,
  StableHlo.unary main_v43 main_v44 (Host.negf : (⟨S16384, .f32⟩ : BufTy).Contents (Elt F) → (⟨S16384, .f32⟩ : BufTy).Contents (Elt F))]

/-- The loss. -/
def opsH : List (HloOp τ sig (Elt F)) := [
  StableHlo.binary main_v44 main_v39 main_v45 (mulf : (⟨S16384, .f32⟩ : BufTy).Contents (Elt F) → (⟨S16384, .f32⟩ : BufTy).Contents (Elt F) → (⟨S16384, .f32⟩ : BufTy).Contents (Elt F)),
  StableHlo.nullary main_cst_13 (constant S_ .f32 0x00000000#32),
  StableHlo.binary main_v45 main_cst_13 main_v46 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
  StableHlo.nullary main_cst_14 (constant S_ .f32 0x46800000#32),
  StableHlo.binary main_v46 main_cst_14 main_v47 (Host.divf : (⟨S_, .f32⟩ : BufTy).Contents (Elt F) → (⟨S_, .f32⟩ : BufTy).Contents (Elt F) → (⟨S_, .f32⟩ : BufTy).Contents (Elt F))]

/-- The whole line. -/
def opsAll : List (HloOp τ sig (Elt F)) := opsA ++ (opsB ++ (opsC ++ (opsD ++ (opsE ++ (opsF ++ (opsG ++ opsH))))))

set_option maxHeartbeats 4000000 in
theorem main_isSeq (c : Dev nD) : IsSeq (main (F := F) c) opsAll := rfl

/-- A buffer of the device. -/
abbrev R (b : Ref sig .tc) : DevRef τ sig := Proc.devRef .tc b

/-! ## What each stretch leaves -/

variable (V : Valuation τ sig (Elt F))

theorem readA_main_v10 : after (opsA (F := F)) V (R main_v10) = vProb (V (R main_arg0)) := by
  unfold opsA
  after_results_simp
  rfl

theorem readA_main_v11 : after (opsA (F := F)) V (R main_v11) = vMax (vProb (V (R main_arg0))) := by
  unfold opsA
  after_results_simp
  rfl

theorem readB_main_v12 : after (opsB (F := F)) V (R main_v12) = vIdx (V (R main_v10)) := by
  unfold opsB
  after_results_simp
  rfl

theorem readC_main_v17 : after (opsC (F := F)) V (R main_v17) = vTau (V (R main_arg2)) (V (R main_v11)) := by
  unfold opsC
  after_results_simp
  rfl

theorem readD_main_v28 : after (opsD (F := F)) V (R main_v28) = vShare (vP (V (R main_arg3)) (V (R main_v10))) := by
  unfold opsD
  after_results_simp
  rfl

theorem readE_main_v39 : after (opsE (F := F)) V (R main_v39) = vMask (V (R main_v11)) (V (R main_v12)) (V (R main_v17)) (V (R main_v28)) := by
  unfold opsE
  after_results_simp
  rfl

set_option maxRecDepth 20000 in
theorem readF_main_v40 : after (opsF (F := F)) V (R main_v40) = vLog (V (R main_arg1)) := by
  unfold opsF
  after_results_simp
  simp only [TRef.ofBuf_toBuf]
  rfl

set_option maxRecDepth 20000 in
theorem readG_main_v44 : after (opsG (F := F)) V (R main_v44) = vNll (V (R main_v40)) (V (R main_v12)) := by
  unfold opsG
  after_results_simp
  simp only [TRef.ofBuf_toBuf]
  rfl

theorem readH_main_v47 : after (opsH (F := F)) V (R main_v47) = vLoss (V (R main_v44)) (V (R main_v39)) := by
  unfold opsH
  after_results_simp
  rfl

end Cert.Proof.RI

end
-- ==== Proof.RefMain.lean ====
/-
  The reference's two results as functions of its arguments, and its run.
-/
module

public import proofs.«01_k».proof.Proof.RefRun

@[expose] public section

noncomputable section

namespace Cert.Proof.RI

open Cert.ReferenceIdeal Cert.ReferenceIdeal.Gen
open Idealize.ShloMosaic Idealize.ShloMosaic.TcCoe Idealize.SL.Sem
open Idealize.ShloMosaic.StableHlo

variable {F : FTy → Type} [FloatOps F]

/-! ## What each stretch leaves alone -/

/-- The buffers that the stretch writes. -/
def wrA : List (Ref sig .tc) := [main_cst, main_v0, main_cst_0, main_v1, main_v2, main_v3, main_v4, main_v5, main_v6, main_cst_1, main_v7, main_v8, main_v9, main_v10, main_cst_2, main_v11]

theorem keepA (V : Valuation τ sig (Elt F)) {r : Ref sig .tc} (h : r ∉ wrA) : after (opsA (F := F)) V (R r) = V (R r) :=
  after_unwritten wrA rfl h V

/-- The buffers that the stretch writes. -/
def wrB : List (Ref sig .tc) := [main_call0_v0, main_call0_cst, main_call0_c, main_call0_v1_0, main_v12]

theorem keepB (V : Valuation τ sig (Elt F)) {r : Ref sig .tc} (h : r ∉ wrB) : after (opsB (F := F)) V (R r) = V (R r) :=
  after_unwritten wrB rfl h V

/-- The buffers that the stretch writes. -/
def wrC : List (Ref sig .tc) := [main_cst_3, main_v13, main_cst_4, main_v14, main_cst_5, main_v15, main_cst_6, main_v16, main_v17]

theorem keepC (V : Valuation τ sig (Elt F)) {r : Ref sig .tc} (h : r ∉ wrC) : after (opsC (F := F)) V (R r) = V (R r) :=
  after_unwritten wrC rfl h V

/-- The buffers that the stretch writes. -/
def wrD : List (Ref sig .tc) := [main_cst_7, main_v18, main_v19, main_cst_8, main_v20, main_cst_9, main_v21, main_v22, main_cst_10, main_v23, main_v24, main_v25, main_cst_11, main_v26, main_v27, main_v28]

theorem keepD (V : Valuation τ sig (Elt F)) {r : Ref sig .tc} (h : r ∉ wrD) : after (opsD (F := F)) V (R r) = V (R r) :=
  after_unwritten wrD rfl h V

/-- The buffers that the stretch writes. -/
def wrE : List (Ref sig .tc) := [main_c, main_v29, main_v30, main_c_12, main_v31, main_v32, main_v33, main_v34, main_v35, main_v36, main_v37, main_v38, main_v39]

theorem keepE (V : Valuation τ sig (Elt F)) {r : Ref sig .tc} (h : r ∉ wrE) : after (opsE (F := F)) V (R r) = V (R r) :=
  after_unwritten wrE rfl h V

/-- The buffers that the stretch writes. -/
def wrF : List (Ref sig .tc) := [main_call1_cst, main_call1_v0, main_call1_cst_0, main_call1_v1, main_call1_v2, main_call1_v3, main_call1_v4, main_call1_v5, main_call1_v6, main_call1_cst_1, main_call1_v7, main_call1_v8, main_call1_v9, main_call1_v10, main_v40]

theorem keepF (V : Valuation τ sig (Elt F)) {r : Ref sig .tc} (h : r ∉ wrF) : after (opsF (F := F)) V (R r) = V (R r) :=
  after_unwritten wrF rfl h V

/-- The buffers that the stretch writes. -/
def wrG : List (Ref sig .tc) := [main_v41, main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_cst, main_call2_v14, main_v42, main_v43, main_v44]

theorem keepG (V : Valuation τ sig (Elt F)) {r : Ref sig .tc} (h : r ∉ wrG) : after (opsG (F := F)) V (R r) = V (R r) :=
  after_unwritten wrG rfl h V

/-- The buffers that the stretch writes. -/
def wrH : List (Ref sig .tc) := [main_v45, main_cst_13, main_v46, main_cst_14, main_v47]

theorem keepH (V : Valuation τ sig (Elt F)) {r : Ref sig .tc} (h : r ∉ wrH) : after (opsH (F := F)) V (R r) = V (R r) :=
  after_unwritten wrH rfl h V

/-! ## The results -/

variable (V : Valuation τ sig (Elt F))

/-- The mask of the weak logits, the threshold and the class probabilities. -/
def refMask (x : Vec F S16384x1000 .f32) (t : Vec F S_ .f32) (q : Vec F S1000 .f32) : Vec F S16384 .f32 :=
  vMask (vMax (vProb x)) (vIdx (vProb x)) (vTau t (vMax (vProb x))) (vShare (vP q (vProb x)))

/-- The loss. -/
def refLoss (x s : Vec F S16384x1000 .f32) (t : Vec F S_ .f32) (q : Vec F S1000 .f32) : Vec F S_ .f32 :=
  vLoss (vNll (vLog s) (vIdx (vProb x))) (refMask x t q)

theorem after_all (V : Valuation τ sig (Elt F)) : after opsAll V
    = after opsH (after opsG (after opsF (after opsE (after opsD (after opsC (after opsB (after opsA V))))))) := by
  unfold opsAll
  simp only [after_append]

theorem read_mask : after opsAll V (R main_v39) = refMask (V (R main_arg0)) (V (R main_arg2)) (V (R main_arg3)) := by
  rw [after_all, keepH (F := F) _ (r := main_v39) (by decide), keepG (F := F) _ (r := main_v39) (by decide), keepF (F := F) _ (r := main_v39) (by decide), readE_main_v39,
    readD_main_v28, keepD (F := F) _ (r := main_v17) (by decide), readC_main_v17, keepD (F := F) _ (r := main_v12) (by decide), keepC (F := F) _ (r := main_v12) (by decide), readB_main_v12,
    keepD (F := F) _ (r := main_v11) (by decide), keepC (F := F) _ (r := main_v11) (by decide), keepB (F := F) _ (r := main_v11) (by decide), readA_main_v11,
    keepC (F := F) _ (r := main_arg3) (by decide), keepB (F := F) _ (r := main_arg3) (by decide), keepA (F := F) _ (r := main_arg3) (by decide),
    keepB (F := F) _ (r := main_arg2) (by decide), keepA (F := F) _ (r := main_arg2) (by decide),
    keepC (F := F) _ (r := main_v10) (by decide), keepB (F := F) _ (r := main_v10) (by decide), readA_main_v10]
  rfl

theorem read_nll : after opsG (after opsF (after opsE (after opsD (after opsC (after opsB (after opsA V)))))) (R main_v44)
    = vNll (vLog (V (R main_arg1))) (vIdx (vProb (V (R main_arg0)))) := by
  rw [readG_main_v44, readF_main_v40, keepE (F := F) _ (r := main_arg1) (by decide), keepD (F := F) _ (r := main_arg1) (by decide), keepC (F := F) _ (r := main_arg1) (by decide), keepB (F := F) _ (r := main_arg1) (by decide), keepA (F := F) _ (r := main_arg1) (by decide), keepF (F := F) _ (r := main_v12) (by decide), keepE (F := F) _ (r := main_v12) (by decide), keepD (F := F) _ (r := main_v12) (by decide), keepC (F := F) _ (r := main_v12) (by decide), readB_main_v12, readA_main_v10]

theorem read_loss : after opsAll V (R main_v47)
    = refLoss (V (R main_arg0)) (V (R main_arg1)) (V (R main_arg2)) (V (R main_arg3)) := by
  have hm := read_mask V
  rw [after_all, keepH (F := F) _ (r := main_v39) (by decide)] at hm
  rw [after_all, readH_main_v47, hm, read_nll]
  rfl

theorem read_arg {r : Ref sig .tc} (h : ∀ l ∈ [wrA, wrB, wrC, wrD, wrE, wrF, wrG, wrH], r ∉ l) :
    after opsAll V (R r) = V (R r) := by
  rw [after_all, keepH _ (h wrH (by simp)), keepG _ (h wrG (by simp)), keepF _ (h wrF (by simp)), keepE _ (h wrE (by simp)), keepD _ (h wrD (by simp)), keepC _ (h wrC (by simp)), keepB _ (h wrB (by simp)), keepA _ (h wrA (by simp))]

/-! ## The run -/

variable (m : (ℓ : Loc nD τ sig) → Buf (Elt F) ℓ) (ρ : Dev nD → PrngReg)

/-- The reference's results, its arguments and its counters when it has run. -/
theorem run_ref : θ_run (Cert.ReferenceIdeal.defs (F := F)) (onTc (τ := τ) (main (F := F))) ⟨m, fun _ => 0, ρ⟩ fun r =>
    (∀ c : Dev nD, r.2.mem ((c.tc : Thread nD τ).loc main_v47) = refLoss (m ((c.tc : Thread nD τ).loc main_arg0))
        (m ((c.tc : Thread nD τ).loc main_arg1)) (m ((c.tc : Thread nD τ).loc main_arg2)) (m ((c.tc : Thread nD τ).loc main_arg3))
      ∧ r.2.mem ((c.tc : Thread nD τ).loc main_v39) = refMask (m ((c.tc : Thread nD τ).loc main_arg0))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0 :=
  (θ_run Cert.ReferenceIdeal.defs _ _).mono (fun r h => ⟨fun c => ⟨(h c main_v47).trans (read_loss _),
      (h c main_v39).trans (read_mask _), (h c main_arg0).trans (read_arg _ (by decide)), (h c main_arg1).trans (read_arg _ (by decide)),
      (h c main_arg2).trans (read_arg _ (by decide)), (h c main_arg3).trans (read_arg _ (by decide)),
      (h c main_arg4).trans (read_arg _ (by decide))⟩, sem_eq_zero_of_no_sems (by decide) r.2⟩)
    (run_hlo Cert.ReferenceIdeal.defs main main_isSeq (by decide) (by decide) (by simp [opsAll, opsA, opsB, opsC, opsD, opsE, opsF, opsG, opsH])
      (by
        intro op h
        simp only [opsAll, List.mem_append] at h
        rcases h with h | h | h | h | h | h | h | h <;>
          (repeat (cases h with | head => rfl | tail _ h => ?_)) <;> exact nomatch h) m ρ)

end Cert.Proof.RI

end
-- ==== Proof.Frames.lean ====
/-
  The three programs run, leave their arguments unchanged and end quiescent.
-/
module

public import proofs.«01_k».proof.Proof.IdxBound
public import proofs.«01_k».proof.Proof.RefMain
public import proofs.«01_k».proof.Proof.Gen.Kernel

@[expose] public section

noncomputable section

namespace Cert.Proof

open Idealize.ShloMosaic Idealize.SL.Sem

/-- The idealized kernel's run, read at its arguments and its counters. -/
theorem frame_kernelIdeal : Cert.quiescent_KernelIdeal := fun m ρ _ =>
  (θ_run Cert.KernelIdeal.defs _ _).mono (fun _ h => ⟨fun c =>
      ⟨(h.1 c).1, (h.1 c).2.1, (h.1 c).2.2.1, (h.1 c).2.2.2.1, (h.1 c).2.2.2.2.1⟩, h.2⟩)
    (KI.run_main (F := Ideal) m ρ)

/-- What the frame says, of the idealized kernel's text at the machine's floats. -/
def KeptIdealText : Prop :=
  ∀ (m : (ℓ : Loc Cert.KernelIdeal.nD Cert.KernelIdeal.τ Cert.KernelIdeal.sig) → Buf (Elt Bits) ℓ) (g : Dev Cert.KernelIdeal.nD → PrngReg),
    θ_run (Cert.KernelIdeal.defs (F := Bits)) (Cert.KernelIdeal.threads (F := Bits)) ⟨m, fun _ => 0, g⟩ (fun r =>
      (∀ c : Dev Cert.KernelIdeal.nD,
      r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2)
          = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3)
          = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4)
          = m ((c.tc : Thread Cert.KernelIdeal.nD Cert.KernelIdeal.τ).loc Cert.KernelIdeal.main_arg4))
      ∧ r.2.sem = fun _ => 0)

/-- The same words of the kernel's own text. -/
def KeptText [Cert.Kernel.Facts] : Prop :=
  ∀ (m : (ℓ : Loc Cert.Kernel.nD Cert.Kernel.τ Cert.Kernel.sig) → Buf (Elt Bits) ℓ) (g : Dev Cert.Kernel.nD → PrngReg),
    θ_run (Cert.Kernel.defs (F := Bits)) (Cert.Kernel.threads (F := Bits)) ⟨m, fun _ => 0, g⟩ (fun r =>
      (∀ c : Dev Cert.Kernel.nD,
      r.2.mem ((c.tc : Thread Cert.Kernel.nD Cert.Kernel.τ).loc Cert.Kernel.main_arg0)
          = m ((c.tc : Thread Cert.Kernel.nD Cert.Kernel.τ).loc Cert.Kernel.main_arg0)
      ∧ r.2.mem ((c.tc : Thread Cert.Kernel.nD Cert.Kernel.τ).loc Cert.Kernel.main_arg1)
          = m ((c.tc : Thread Cert.Kernel.nD Cert.Kernel.τ).loc Cert.Kernel.main_arg1)
      ∧ r.2.mem ((c.tc : Thread Cert.Kernel.nD Cert.Kernel.τ).loc Cert.Kernel.main_arg2)
          = m ((c.tc : Thread Cert.Kernel.nD Cert.Kernel.τ).loc Cert.Kernel.main_arg2)
      ∧ r.2.mem ((c.tc : Thread Cert.Kernel.nD Cert.Kernel.τ).loc Cert.Kernel.main_arg3)
          = m ((c.tc : Thread Cert.Kernel.nD Cert.Kernel.τ).loc Cert.Kernel.main_arg3)
      ∧ r.2.mem ((c.tc : Thread Cert.Kernel.nD Cert.Kernel.τ).loc Cert.Kernel.main_arg4)
          = m ((c.tc : Thread Cert.Kernel.nD Cert.Kernel.τ).loc Cert.Kernel.main_arg4))
      ∧ r.2.sem = fun _ => 0)

theorem keptIdealText : KeptIdealText := fun m ρ =>
  (θ_run Cert.KernelIdeal.defs _ _).mono (fun _ h => ⟨fun c =>
      ⟨(h.1 c).1, (h.1 c).2.1, (h.1 c).2.2.1, (h.1 c).2.2.2.1, (h.1 c).2.2.2.2.1⟩, h.2⟩)
    (KI.run_main (F := Bits) m ρ)

/-- The two texts are one. -/
theorem keptText_eq : KeptText = KeptIdealText := by sl_kernel_rfl

/-- The kernel's run, read at its arguments and its counters. -/
theorem frame_kernel : Cert.quiescent_Kernel := fun m ρ _ => keptText_eq.mpr keptIdealText m ρ

/-- The reference's run. -/
theorem frame_reference : Cert.quiescent_ReferenceIdeal := fun m ρ _ =>
  (θ_run Cert.ReferenceIdeal.defs _ _).mono (fun _ h => ⟨fun c =>
      ⟨(h.1 c).2.2.1, (h.1 c).2.2.2.1, (h.1 c).2.2.2.2.1, (h.1 c).2.2.2.2.2.1, (h.1 c).2.2.2.2.2.2⟩, h.2⟩)
    (RI.run_ref (F := Ideal) m ρ)

end Cert.Proof

end
-- ==== Proof.RowMath.lean ====
/-
  The mathematics of one row of finite logits over the extended reals: its largest entry, the sum of the exponentials of
  the entries less the largest, the softmax, and the first place of the largest.
-/
module

public import Idealize.ShloMosaic.Lib.Pointwise
public import Idealize.ShloMosaic.Lib.IdealHost

@[expose] public section

noncomputable section

namespace Cert.Proof.Row

open Idealize.ShloMosaic
open scoped BigOperators

/-- The largest entry. -/
def top (a : Fin 1000 → ℝ) : ℝ := Finset.univ.sup' ⟨0, Finset.mem_univ _⟩ a
/-- The sum of the exponentials of the entries less the largest. -/
def tot (a : Fin 1000 → ℝ) : ℝ := ∑ k, Real.exp (a k - top a)
/-- The softmax. -/
def prb (a : Fin 1000 → ℝ) (k : Fin 1000) : ℝ := Real.exp (a k - top a) * (tot a)⁻¹

theorem le_top (a : Fin 1000 → ℝ) (k : Fin 1000) : a k ≤ top a := Finset.le_sup' a (Finset.mem_univ k)

theorem exists_top (a : Fin 1000 → ℝ) : ∃ k, a k = top a := by
  obtain ⟨k, _, h⟩ := Finset.exists_mem_eq_sup' (s := (Finset.univ : Finset (Fin 1000))) ⟨0, Finset.mem_univ _⟩ a
  exact ⟨k, h.symm⟩

/-- The first place of the largest entry. -/
def plc (a : Fin 1000 → ℝ) : Fin 1000 := (Finset.univ.filter fun k => a k = top a).min' (by
  obtain ⟨k, h⟩ := exists_top a
  exact ⟨k, by simp [h]⟩)

theorem plc_spec (a : Fin 1000 → ℝ) : a (plc a) = top a :=
  (Finset.mem_filter.mp (Finset.min'_mem (Finset.univ.filter fun k => a k = top a) _)).2

theorem plc_le (a : Fin 1000 → ℝ) (k : Fin 1000) (h : a k = top a) : plc a ≤ k :=
  Finset.min'_le _ _ (by simp [h])

theorem tot_pos (a : Fin 1000 → ℝ) : 0 < tot a :=
  Finset.sum_pos (fun _ _ => Real.exp_pos _) ⟨0, Finset.mem_univ _⟩

theorem prb_pos (a : Fin 1000 → ℝ) (k : Fin 1000) : 0 < prb a k :=
  mul_pos (Real.exp_pos _) (inv_pos.mpr (tot_pos a))

theorem prb_le (a : Fin 1000 → ℝ) (k : Fin 1000) : prb a k ≤ (tot a)⁻¹ := by
  have h : Real.exp (a k - top a) ≤ 1 := Real.exp_le_one_iff.mpr (by have := le_top a k; linarith)
  have := inv_pos.mpr (tot_pos a)
  unfold prb
  nlinarith

theorem prb_eq_iff (a : Fin 1000 → ℝ) (k : Fin 1000) : prb a k = (tot a)⁻¹ ↔ a k = top a := by
  have h0 := (inv_pos.mpr (tot_pos a)).ne'
  constructor
  · intro h
    have : Real.exp (a k - top a) = 1 := by
      unfold prb at h
      exact mul_right_cancel₀ h0 (by rw [h, one_mul])
    have := Real.exp_eq_one_iff _ |>.mp this
    linarith
  · intro h
    unfold prb
    rw [h, sub_self, Real.exp_zero, one_mul]

theorem prb_plc (a : Fin 1000 → ℝ) : prb a (plc a) = (tot a)⁻¹ := (prb_eq_iff a _).mpr (plc_spec a)

/-- The greatest of finitely many reals, from minus infinity, over the extended reals. -/
theorem fold_max_eq (f : Fin 1000 → EReal) (y : EReal) (hy : ∃ k, f k = y) (hle : ∀ k, f k ≤ y) :
    (Finset.univ : Finset (Fin 1000)).fold max ⊥ f = y := by
  apply le_antisymm
  · exact (Finset.fold_max_le _).mpr ⟨bot_le, fun k _ => hle k⟩
  · obtain ⟨k, hk⟩ := hy
    exact (Finset.le_fold_max _).mpr (.inr ⟨k, Finset.mem_univ _, hk.ge⟩)

theorem fold_top (a : Fin 1000 → ℝ) : (Finset.univ : Finset (Fin 1000)).fold max ⊥ (fun k => (a k : EReal)) = (top a : EReal) :=
  fold_max_eq _ _ ((exists_top a).imp fun _ h => by rw [h]) fun k => EReal.coe_le_coe_iff.mpr (le_top a k)

theorem fold_prb (a : Fin 1000 → ℝ) : (Finset.univ : Finset (Fin 1000)).fold max ⊥ (fun k => (prb a k : EReal)) = ((tot a)⁻¹ : ℝ) :=
  fold_max_eq _ _ ⟨plc a, by rw [prb_plc]⟩ fun k => EReal.coe_le_coe_iff.mpr (prb_le a k)

/-- A sum of reals over the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem exp_coe (r : ℝ) : Ideal.exp (r : EReal) = (Real.exp r : EReal) := rfl

theorem log_coe (r : ℝ) (h : 0 < r) : Ideal.log (r : EReal) = (Real.log r : EReal) := if_neg (not_le.mpr h)

theorem div_coe (x y : ℝ) (h : y ≠ 0) : Ideal.div (x : EReal) (y : EReal) = ((x * y⁻¹ : ℝ) : EReal) := by
  unfold Ideal.div
  rw [if_neg (by exact_mod_cast h), EReal.coe_mul, EReal.coe_inv]

theorem sum_exp (a : Fin 1000 → ℝ) : ∑ k, (Real.exp (a k - top a) : EReal) = (tot a : EReal) := coe_sum _ _

/-! ## Patterns -/

theorem negInf : Ideal.ofBits .f32 0xFF800000#32 = ⊥ := by simp [Ideal.ofBits, Ideal.ieee]
theorem posInf : Ideal.ofBits .f32 0x7F800000#32 = ⊤ := by simp [Ideal.ofBits, Ideal.ieee]
/-- The number of rows. -/
theorem rowsBits : Ideal.ofBits .f32 0x46800000#32 = ((16384 : ℝ) : EReal) := by
  simp [Ideal.ofBits, Ideal.ieee, -EReal.coe_mul]; norm_num
/-- Its reciprocal. -/
theorem rowsInvBits : Ideal.ofBits .f32 0x38800000#32 = (((16384 : ℝ)⁻¹ : ℝ) : EReal) := by
  simp [Ideal.ofBits, Ideal.ieee, -EReal.coe_mul]; norm_num
/-- What the running means keep is not negative, and what they take in is positive. -/
theorem keepBits : ∃ r : ℝ, 0 ≤ r ∧ Ideal.ofBits .f32 0x3F7FBE77#32 = (r : EReal) := by
  refine ⟨_, ?_, by simp [Ideal.ofBits, Ideal.ieee, -EReal.coe_mul]; rfl⟩
  positivity
theorem takeBits : ∃ r : ℝ, 0 < r ∧ Ideal.ofBits .f32 0x3A83126F#32 = (r : EReal) := by
  refine ⟨_, ?_, by simp [Ideal.ofBits, Ideal.ieee, -EReal.coe_mul]; rfl⟩
  positivity

/-! ## The two results -/

variable (A B : Fin 16384 → Fin 1000 → ℝ) (t : EReal) (q : Fin 1000 → EReal)

/-- The classes' running shares, with this batch taken in. -/
def pNew (c : Fin 1000) : EReal :=
  q c * Ideal.ofBits .f32 0x3F7FBE77#32 + Ideal.ofBits .f32 0x3A83126F#32
    * Ideal.div (∑ i, (prb (A i) c : EReal)) (Ideal.ofBits .f32 0x46800000#32)
/-- The running threshold, with this batch taken in. -/
def tNew : EReal :=
  t * Ideal.ofBits .f32 0x3F7FBE77#32 + Ideal.ofBits .f32 0x3A83126F#32
    * Ideal.div (∑ i, (((tot (A i))⁻¹ : ℝ) : EReal)) (Ideal.ofBits .f32 0x46800000#32)
/-- The largest share. -/
def pTop : EReal := (Finset.univ : Finset (Fin 1000)).fold max ⊥ (pNew A q)
/-- A class's threshold: the running one, scaled by the class's share of the largest. -/
def thr (c : Fin 1000) : EReal := tNew A t * Ideal.div (pNew A q c) (pTop A q)
/-- Whether a row is confident enough, as a number. -/
def msk (i : Fin 16384) : ℝ := by
  classical exact if thr A t q (plc (A i)) ≤ (((tot (A i))⁻¹ : ℝ) : EReal) then 1 else 0
/-- A row's negated log-probability, of the second batch at the first's place. -/
def nll (i : Fin 16384) : ℝ := top (B i) + Real.log (tot (B i)) - B i (plc (A i))
/-- The loss. -/
def loss : ℝ := (∑ i, nll A B i * msk A t q i) * (16384 : ℝ)⁻¹

/-- Where some share is not negative the largest new one is above zero. -/
theorem pTop_pos (h : ∃ c, 0 ≤ q c) : 0 < pTop A q := by
  obtain ⟨c, hc⟩ := h
  obtain ⟨k, hk, ek⟩ := keepBits
  obtain ⟨r, hr, er⟩ := takeBits
  have h1 : (0 : EReal) ≤ q c * Ideal.ofBits .f32 0x3F7FBE77#32 := by
    rw [ek]; exact mul_nonneg hc (by exact_mod_cast hk)
  have h2 : (0 : EReal) < Ideal.ofBits .f32 0x3A83126F#32
      * Ideal.div (∑ i, (prb (A i) c : EReal)) (Ideal.ofBits .f32 0x46800000#32) := by
    have hp : 0 < ∑ i, prb (A i) c := Finset.sum_pos (fun i _ => prb_pos _ _) ⟨0, Finset.mem_univ _⟩
    rw [er, rowsBits, coe_sum, div_coe _ _ (by norm_num), ← EReal.coe_mul]
    exact_mod_cast mul_pos hr (mul_pos hp (by norm_num))
  have h3 : 0 < pNew A q c := lt_of_lt_of_le h2 (le_add_of_nonneg_left h1)
  exact lt_of_lt_of_le h3 ((Finset.le_fold_max _).mpr (.inr ⟨c, Finset.mem_univ _, le_rfl⟩))

/-- The threshold with the division taken first on the running threshold. -/
theorem thr_eq (h : ∃ c, 0 ≤ q c) (c : Fin 1000) : pNew A q c * Ideal.div (tNew A t) (pTop A q) = thr A t q c := by
  have h0 := (pTop_pos A q h).ne'
  unfold thr Ideal.div
  rw [if_neg h0, if_neg h0]
  exact mul_left_comm _ _ _

/-- A sum over blocks. -/
theorem sum_blocks {M : Type} [AddCommMonoid M] (g : ℕ → M) (b : ℕ) : ∀ a : ℕ,
    ∑ x ∈ Finset.range a, ∑ y ∈ Finset.range b, g (b * x + y) = ∑ i ∈ Finset.range (b * a), g i
  | 0 => by simp
  | a + 1 => by rw [Finset.sum_range_succ, sum_blocks g b a, Nat.mul_succ, Finset.sum_range_add]

end Cert.Proof.Row

end
-- ==== Proof.KRead.lean ====
/-
  What the TensorCore phase computes, over the extended reals and finite logits, read at an element.
-/
module

public import proofs.«01_k».proof.Proof.IdxBound
public import proofs.«01_k».proof.Proof.RowMath

@[expose] public section

noncomputable section

namespace Cert.Proof.KI

open Cert.KernelIdeal Cert.KernelIdeal.Gen
open Idealize.ShloMosaic
open scoped BigOperators
open Cert.Proof.Row

variable {w s : Vec Ideal S1000x512 .f32} {a b : Fin 512 → Fin 1000 → ℝ}
  (hw : ∀ k l, w (ix2 k l) = (a l k : EReal)) (hs : ∀ k l, s (ix2 k l) = (b l k : EReal))

include hw in
/-- The column maxima. -/
theorem pay5_at (l : Fin 512) : k0_pay5 w (ix2 0 l) = (top (a l) : EReal) := by
  pointwise [k0_pay5, k0_pay2]
  simp only [hw, negInf]
  exact fold_top _

include hs in
theorem pay10_at (l : Fin 512) : k0_pay10 s (ix2 0 l) = (top (b l) : EReal) := by
  pointwise [k0_pay10, k0_pay3]
  simp only [hs, negInf]
  exact fold_top _

include hw in
/-- The exponentials. -/
theorem pay7_at (k : Fin 1000) (l : Fin 512) : k0_pay7 w (ix2 k l) = (Real.exp (a l k - top (a l)) : EReal) := by
  pointwise [k0_pay7, k0_pay2]
  rw [pay5_at hw, hw, ← EReal.coe_sub, exp_coe]

include hw in
/-- The largest probabilities. -/
theorem pay8_at (l : Fin 512) : k0_pay8 w (ix1 l) = ((tot (a l))⁻¹ : ℝ) := by
  pointwise [k0_pay8, k0_pay4]
  simp only [pay7_at hw, sum_exp]
  rw [show (1 : EReal) = ((1 : ℝ) : EReal) from rfl, div_coe _ _ (tot_pos _).ne', one_mul]

include hw in
/-- The column sums grow by a half's probabilities. -/
theorem pay9_at (cs : Vec Ideal S1000x1 .f32) (k : Fin 1000) :
    k0_pay9 w cs (ix2 k 0) = cs (ix2 k 0) + ∑ l : Fin 512, (prb (a l) k : EReal) := by
  pointwise [k0_pay9]
  simp only [pay7_at hw, pay8_at hw]
  exact congrArg (cs (ix2 k 0) + ·) (Finset.sum_congr rfl fun l _ => by rw [← EReal.coe_mul]; rfl)

include hw in
/-- The places of the largest entries. -/
theorem pay6_at (l : Fin 512) : k0_pay6 w (ix1 l) = BitVec.ofNat 32 (plc (a l)).val := by
  have hl := (plc (a l)).isLt
  have hc : ∀ k : Fin 1000, (candW w (reduces_S1000x512_S512.lift (ix1 l) k)).toNat
      = if a l k = top (a l) then k.val else 1000 := by
    intro k
    have e : reduces_S1000x512_S512.lift (ix1 l) k = ix2 k l := by
      funext d
      match d with
      | ⟨0, _⟩ => exact Fin.ext rfl
      | ⟨1, _⟩ => exact Fin.ext rfl
    rw [e, candW_apply]
    pointwise [k0_pay2]
    rw [pay5_at hw, hw]
    have hk := k.isLt
    by_cases h : a l k = top (a l)
    · rw [if_pos h, if_pos (by simp [h]), BitVec.toNat_ofNat, Nat.mod_eq_of_lt (by omega)]
    · rw [if_neg h, if_neg (by simp [h])]; rfl
  apply BitVec.eq_of_toNat_eq
  rw [pay6_toNat, BitVec.toNat_ofNat, Nat.mod_eq_of_lt (by omega)]
  apply le_antisymm
  · refine (Finset.fold_min_le _).mpr (.inr ⟨plc (a l), Finset.mem_univ _, ?_⟩)
    rw [hc, if_pos (plc_spec _)]
  · refine (Finset.le_fold_min _).mpr ⟨by omega, fun (k : Fin 1000) _ => le_of_le_of_eq ?_ (hc k).symm⟩
    split
    · rename_i h; exact plc_le _ _ h
    · omega

include hw hs in
/-- The negated log-probabilities. -/
theorem nllH_at (l : Fin 512) : nllH w s (ix1 l) = ((top (b l) + Real.log (tot (b l)) - b l (plc (a l)) : ℝ) : EReal) := by
  pointwise [nllH, k0_pay13, k0_pay3, k0_pay4, k0_pay11, k0_pay12]
  simp only [pay10_at hs, hs, pay6_at hw, ← EReal.coe_sub, exp_coe, sum_exp]
  rw [log_coe _ (tot_pos _), ← EReal.coe_add]
  have e : ∑ x : Fin 1000, (Scalar.select (IntOp.cmpi CmpIPredicate.eq (BitVec.ofNat 32 x.val) (BitVec.ofNat 32 (plc (a l)).val))
      (b l x : EReal) 0) = (b l (plc (a l)) : EReal) := by
    refine (Finset.sum_eq_single (plc (a l)) (fun x _ hx => ?_) (fun h => absurd (Finset.mem_univ _) h)).trans ?_
    · have : BitVec.ofNat 32 x.val ≠ BitVec.ofNat 32 (plc (a l)).val := fun h => hx (Fin.ext (by
        have := congrArg BitVec.toNat h
        have h1 := x.isLt
        have h2 := (plc (a l)).isLt
        rwa [BitVec.toNat_ofNat, BitVec.toNat_ofNat, Nat.mod_eq_of_lt (by omega), Nat.mod_eq_of_lt (by omega)] at this))
      simp [Scalar.select, IntOp.cmpi, beq_eq_false_iff_ne.mpr this]
    · simp [Scalar.select, IntOp.cmpi]
  rw [EReal.coe_sub]
  exact congrArg (_ - ·) e

theorem pay25_at (u v : FVec Ideal S512 .f32) (z : EReal) :
    k0_pay25 u v z = z + (∑ l : Fin 512, u (ix1 l) + ∑ l : Fin 512, v (ix1 l)) := by
  pointwise [k0_pay25]

end Cert.Proof.KI

end
-- ==== Proof.KVal.lean ====
/-
  The kernel's two results, over the extended reals and finite logits, in the mathematics of the rows.
-/
module

public import proofs.«01_k».proof.Proof.KRead

@[expose] public section

noncomputable section

namespace Cert.Proof.KI

open Cert.KernelIdeal Cert.KernelIdeal.Gen
open Idealize.ShloMosaic
open scoped BigOperators
open Cert.Proof.Row

/-- The row of a number. -/
def rowOf (n : ℕ) : Fin 16384 := ⟨n % 16384, Nat.mod_lt _ (by decide)⟩

theorem row_val (i : Fin 16384) : rowOf i.val = i := Fin.ext (Nat.mod_eq_of_lt i.isLt)

theorem sum_row {M : Type} [AddCommMonoid M] (f : Fin 16384 → M) : ∑ i ∈ Finset.range 16384, f (rowOf i) = ∑ i, f i := by
  rw [Finset.sum_range]
  exact Finset.sum_congr rfl fun i _ => by rw [row_val]

section Phase1

variable {WT ST : Vec Ideal S1000x16384 .f32} {A B : Fin 16384 → Fin 1000 → ℝ}
  (hW : ∀ (k : Fin 1000) (i : Fin 16384), WT (ix2 k i) = (A i k : EReal))
  (hS : ∀ (k : Fin 1000) (i : Fin 16384), ST (ix2 k i) = (B i k : EReal))

include hW in
theorem wcol_at (n : ℕ) (k : Fin 1000) (l : Fin 512) : wcol WT n (ix2 k l) = (A (rowOf (512 * n + l.val)) k : EReal) :=
  hW k (rowOf (512 * n + l.val))

include hW in
/-- The column sums after `n` halves. -/
theorem csAt_at (c : Fin 1000) : ∀ n : ℕ, csAt WT n (ix2 c 0) = ∑ i ∈ Finset.range (512 * n), (prb (A (rowOf i)) c : EReal)
  | 0 => by
      show Ideal.ofBits .f32 0x00000000#32 = _
      simp
  | n + 1 => by
      show k0_pay9 (wcol WT n) (csAt WT n) (ix2 c 0) = _
      rw [pay9_at (a := fun l => A (rowOf (512 * n + l.val))) (wcol_at hW n), csAt_at c n, Nat.mul_succ, Finset.sum_range_add,
        Finset.sum_range (n := 512)]

include hW in
/-- The sum of the largest probabilities after `t` grid points. -/
theorem msAt_at : ∀ t : ℕ, msAt WT t = ∑ i ∈ Finset.range (1024 * t), (((tot (A (rowOf i)))⁻¹ : ℝ) : EReal)
  | 0 => by
      show Ideal.ofBits .f32 0x00000000#32 = _
      simp
  | t + 1 => by
      show k0_pay25 (k0_pay8 (wcol WT (2 * t))) (k0_pay8 (wcol WT (2 * t + 1))) (msAt WT t) = _
      rw [pay25_at, msAt_at t]
      simp only [pay8_at (wcol_at hW _)]
      rw [show 1024 * (t + 1) = 1024 * t + (512 + 512) by omega, Finset.sum_range_add, Finset.sum_range_add (n := 512),
        Finset.sum_range (n := 512), Finset.sum_range (n := 512)]
      refine congrArg (_ + ·) (congrArg₂ (· + ·) ?_ ?_)
      · refine Finset.sum_congr rfl fun l _ => ?_
        rw [show 512 * (2 * t) + l.val = 1024 * t + l.val by omega]
      · refine Finset.sum_congr rfl fun l _ => ?_
        rw [show 512 * (2 * t + 1) + l.val = 1024 * t + (512 + l.val) by omega]

/-- An array whose blocks are pairs of halves, read at an element. -/
theorem ofBlks_cat {e : EltTy} (U : ℕ → Vec Ideal S512 e) (g : ℕ → Elt Ideal e)
    (hU : ∀ n (l : Fin 512), U n (ix1 l) = g (512 * n + l.val)) (i : Fin 16384) :
    ofBlks (F := Ideal) (fun t => cat (e := e) (U (2 * t)) (U (2 * t + 1))) (ix1 i) = g i.val := by
  have hi := i.isLt
  by_cases h : i.val % 1024 < 512
  · refine (dif_pos h).trans ((hU _ ⟨i.val % 1024, h⟩).trans (congrArg g ?_))
    show 512 * (2 * (i.val / 1024)) + i.val % 1024 = _
    omega
  · refine (dif_neg h).trans ((hU _ ⟨i.val % 1024 - 512, by omega⟩).trans (congrArg g ?_))
    show 512 * (2 * (i.val / 1024) + 1) + (i.val % 1024 - 512) = _
    omega

include hW in
theorem mp_at (i : Fin 16384) : ofBlks (mpBlk WT) (ix1 i) = (((tot (A i))⁻¹ : ℝ) : EReal) := by
  have := ofBlks_cat (e := .f32) (fun n => k0_pay8 (wcol WT n)) (fun n => (((tot (A (rowOf n)))⁻¹ : ℝ) : EReal))
    (fun n l => pay8_at (wcol_at hW n) l) i
  rw [row_val] at this
  exact this

include hW in
theorem ix_at (i : Fin 16384) : ofBlks (F := Ideal) (e := .i32) (ixBlk WT) (ix1 i) = BitVec.ofNat 32 (plc (A i)).val := by
  have := ofBlks_cat (e := .i32) (fun n => k0_pay6 (wcol WT n)) (fun n => BitVec.ofNat 32 (plc (A (rowOf n))).val)
    (fun n l => pay6_at (wcol_at hW n) l) i
  rw [row_val] at this
  exact this

include hW hS in
theorem nl_at (i : Fin 16384) : ofBlks (nlBlk WT ST) (ix1 i) = (nll A B i : EReal) := by
  have := ofBlks_cat (e := .f32) (fun n => nllH (wcol WT n) (wcol ST n)) (fun n => (nll A B (rowOf n) : EReal))
    (fun n l => nllH_at (wcol_at hW n) (wcol_at hS n) l) i
  rw [row_val] at this
  exact this

include hW in
/-- The table of thresholds at a class. -/
theorem tbl_at (P : Vec Ideal S1000 .f32) (T : Vec Ideal S1 .f32) (t : EReal) (hT : ∀ y, T y = t)
    (hP : ∃ c : Fin 1000, (0 : EReal) ≤ P (ix1 c)) (n : ℕ) (c : Fin 1000) (hn : n = c.val) (h1 : n < 1024) :
    tblV WT P T (ix1 (⟨n, h1⟩ : Fin 1024)) = thr A t (fun c => P (ix1 c)) c := by
  subst hn
  refine (dif_pos c.isLt).trans ?_
  show k0_pay26 (csAt WT 32) P (T _) (msAt WT 16) (ix1 c) = _
  rw [hT, ← thr_eq A t (fun c => P (ix1 c)) hP]
  have e1 : ∀ c, csAt WT 32 (ix2 c 0) = ∑ i, (prb (A i) c : EReal) := fun c =>
    (csAt_at hW c 32).trans (sum_row fun i => (prb (A i) c : EReal))
  have e2 : msAt WT 16 = ∑ i, (((tot (A i))⁻¹ : ℝ) : EReal) := (msAt_at hW 16).trans (sum_row fun i => (((tot (A i))⁻¹ : ℝ) : EReal))
  rw [e2]
  pointwise [k0_pay26]
  simp only [e1, negInf]
  rfl

end Phase1

section Phase2

variable {IX : Vec Ideal S16384 .i32} {MP NL : Vec Ideal S16384 .f32} {TB : Vec Ideal S1024 .f32}
  {A B : Fin 16384 → Fin 1000 → ℝ} {t : EReal} {q : Fin 1000 → EReal}
  (hMP : ∀ i : Fin 16384, MP (ix1 i) = (((tot (A i))⁻¹ : ℝ) : EReal))
  (hIX : ∀ i : Fin 16384, IX (ix1 i) = BitVec.ofNat 32 (plc (A i)).val)
  (hNL : ∀ i : Fin 16384, NL (ix1 i) = (nll A B i : EReal))
  (hTB : ∀ (n : ℕ) (c : Fin 1000) (_ : n = c.val) (h1 : n < 1024), TB (ix1 (⟨n, h1⟩ : Fin 1024)) = thr A t q c)

/-- A lane of a group of a block is a row. -/
theorem lane_at {e : EltTy} (X : Vec Ideal S16384 e) (n k : ℕ) (l : Fin 16) (hn : n < 16) (hk : k < 64) :
    lane16 (F := Ideal) (blk1024 (F := Ideal) X n) k (ix1 l) = X (ix1 (rowOf (1024 * n + (16 * k + l.val)))) := by
  have e : (1024 * n + (16 * k + l.val) % 1024) % 16384 = (1024 * n + (16 * k + l.val)) % 16384 := by
    have := l.isLt
    omega
  exact congrArg (fun z : Fin 16384 => X (ix1 z)) (Fin.ext e)

include hMP hIX hTB in
/-- The mask of a lane. -/
theorem pay2_at (n k : ℕ) (l : Fin 16) (hn : n < 16) (hk : k < 64) :
    k1_pay2 (thr16 TB (lane16 (F := Ideal) (e := .i32) (blk1024 (F := Ideal) IX n) k)) (lane16 (blk1024 MP n) k) (ix1 l)
      = (msk A t q (rowOf (1024 * n + (16 * k + l.val))) : EReal) := by
  set i := rowOf (1024 * n + (16 * k + l.val)) with hi
  have e1 : thr16 TB (lane16 (F := Ideal) (e := .i32) (blk1024 (F := Ideal) IX n) k) (ix1 l) = thr A t q (plc (A i)) := by
    refine hTB _ _ ?_ _
    rw [show (lane16 (F := Ideal) (e := .i32) (blk1024 (F := Ideal) IX n) k) (ix1 l) = BitVec.ofNat 32 (plc (A i)).val from
      (lane_at IX n k l hn hk).trans (hIX _), BitVec.toNat_ofNat]
    have := (plc (A i)).isLt
    omega
  have e2 : lane16 (blk1024 MP n) k (ix1 l) = (((tot (A i))⁻¹ : ℝ) : EReal) := (lane_at MP n k l hn hk).trans (hMP _)
  pointwise [k1_pay2]
  rw [e1, e2]
  unfold msk
  by_cases h : thr A t q (plc (A i)) ≤ (((tot (A i))⁻¹ : ℝ) : EReal)
  · rw [if_pos h]; simp [Scalar.select, h]
  · rw [if_neg h]; simp [Scalar.select, h]

include hMP hIX hTB in
/-- The mask at a row. -/
theorem mkRow_at (i : Fin 16384) : maskA IX MP TB (ix1 i) = (msk A t q i : EReal) := by
  have hi := i.isLt
  refine (pay2_at hMP hIX hTB (i.val / 1024) (i.val % 1024 / 16) ⟨i.val % 1024 % 16, by omega⟩ (by omega) (by omega)).trans ?_
  rw [show 1024 * (i.val / 1024) + (16 * (i.val % 1024 / 16) + i.val % 1024 % 16) = i.val by omega, row_val]

include hMP hIX hTB hNL in
/-- The running sums of a block. -/
theorem acc_at (n : ℕ) (hn : n < 16) (l : Fin 16) : ∀ k : ℕ, k ≤ 64 →
    accAt TB (blk1024 (F := Ideal) (e := .i32) IX n) (blk1024 MP n) (blk1024 NL n) k (ix1 l)
      = ((∑ x ∈ Finset.range k, nll A B (rowOf (1024 * n + (16 * x + l.val))) * msk A t q (rowOf (1024 * n + (16 * x + l.val))) : ℝ) : EReal)
  | 0, _ => by
      show Ideal.ofBits .f32 0x00000000#32 = _
      simp
  | k + 1, hk => by
      have e : lane16 (blk1024 NL n) k (ix1 l) = (nll A B (rowOf (1024 * n + (16 * k + l.val))) : EReal) :=
        (lane_at NL n k l hn (by omega)).trans (hNL _)
      show accAt TB (blk1024 (F := Ideal) (e := .i32) IX n) (blk1024 MP n) (blk1024 NL n) k (ix1 l)
        + lane16 (blk1024 NL n) k (ix1 l) * k1_pay2 (thr16 TB (lane16 (F := Ideal) (e := .i32) (blk1024 (F := Ideal) IX n) k))
            (lane16 (blk1024 MP n) k) (ix1 l) = _
      rw [acc_at n hn l k (by omega), e, pay2_at hMP hIX hTB n k l hn (by omega), Finset.sum_range_succ, EReal.coe_add, EReal.coe_mul]

include hMP hIX hTB hNL in
/-- The loss. -/
theorem loss_at (y : S_.Idx) : Host.reduceAdd (F := Ideal) (partA IX MP NL TB) (constant S_ .f32 0x00000000#32) reducesTo_S16x16_S_d0_1 h_S_ y
    = (loss A B t q : EReal) := by
  have hp : ∀ (n l : Fin 16), partA IX MP NL TB (ix2 n l)
      = (((∑ x ∈ Finset.range 64, nll A B (rowOf (1024 * n.val + (16 * x + l.val))) * msk A t q (rowOf (1024 * n.val + (16 * x + l.val))))
          * (16384 : ℝ)⁻¹ : ℝ) : EReal) := by
    intro n l
    have e : partA IX MP NL TB (ix2 n l)
        = accAt TB (blk1024 (F := Ideal) (e := .i32) IX n.val) (blk1024 MP n.val) (blk1024 NL n.val) 64 (ix1 l)
          * Ideal.ofBits .f32 0x38800000#32 := rfl
    rw [e, acc_at hMP hIX hNL hTB n.val n.isLt l 64 le_rfl, rowsInvBits, EReal.coe_mul]
  pointwise
  simp only [hp]
  rw [Finset.sum_congr rfl fun n _ => coe_sum _ _, coe_sum]
  refine congrArg Real.toEReal ?_
  simp only [← Finset.sum_mul]
  unfold loss
  refine congrArg (· * (16384 : ℝ)⁻¹) ?_
  have e0 : ∑ i, nll A B i * msk A t q i = ∑ n ∈ Finset.range 16, ∑ y ∈ Finset.range 1024,
      nll A B (rowOf (1024 * n + y)) * msk A t q (rowOf (1024 * n + y)) :=
    (sum_row fun i => nll A B i * msk A t q i).symm.trans
      (sum_blocks (fun i => nll A B (rowOf i) * msk A t q (rowOf i)) 1024 16).symm
  rw [e0, Finset.sum_range (n := 16)]
  refine Finset.sum_congr rfl fun n _ => ?_
  have e1 : ∑ y ∈ Finset.range 1024, nll A B (rowOf (1024 * n.val + y)) * msk A t q (rowOf (1024 * n.val + y))
      = ∑ x ∈ Finset.range 64, ∑ l ∈ Finset.range 16, nll A B (rowOf (1024 * n.val + (16 * x + l))) * msk A t q (rowOf (1024 * n.val + (16 * x + l))) :=
    (sum_blocks (fun y => nll A B (rowOf (1024 * n.val + y)) * msk A t q (rowOf (1024 * n.val + y))) 16 64).symm
  rw [e1, Finset.sum_comm]
  refine Finset.sum_congr rfl fun x _ => ?_
  rw [Finset.sum_range (n := 16)]

end Phase2

end Cert.Proof.KI

end
-- ==== Proof.RSoft.lean ====
/-
  What the reference computes, over the extended reals and finite logits, read at an element.
-/
module

public import proofs.«01_k».proof.Proof.RefRun
public import proofs.«01_k».proof.Proof.RowMath

@[expose] public section

noncomputable section

namespace Cert.Proof.RI

open Cert.ReferenceIdeal Cert.ReferenceIdeal.Gen
open Idealize.ShloMosaic
open scoped BigOperators
open Cert.Proof.Row

variable {x s : Vec Ideal S16384x1000 .f32} {A B : Fin 16384 → Fin 1000 → ℝ}
  (hX : ∀ i k, x (ix2 i k) = (A i k : EReal)) (hS : ∀ i k, s (ix2 i k) = (B i k : EReal))

include hX in
theorem vMax_at (i : Fin 16384) : vMax x (ix1 i) = (top (A i) : EReal) := by
  pointwise [vMax]
  simp only [hX, negInf]
  exact fold_top _

theorem top_of (y : Vec Ideal S16384 .f32) (t : EReal) (i : Fin 16384) (h : y (ix1 i) = t) :
   (maximumf (F := Ideal) (broadcastInDim S16384 ![] bcast_S_S16384 (constant (F := Ideal) S_ .f32 0xFF800000#32)) y (ix1 i) : EReal) = t := by
  pointwise
  rw [h, negInf, max_eq_right bot_le]

include hX in
theorem vTop_at (i : Fin 16384) : vTop x (ix1 i) = (top (A i) : EReal) := by
  unfold vTop
  exact top_of _ _ i (vMax_at hX i)

include hX in
theorem vSub_at (i : Fin 16384) (k : Fin 1000) : vSub x (ix2 i k) = ((A i k - top (A i) : ℝ) : EReal) := by
  pointwise [vSub, vSpread]
  rw [vTop_at hX, hX, ← EReal.coe_sub]

include hX in
theorem vSum_at (i : Fin 16384) : vSum x (ix1 i) = (tot (A i) : EReal) := by
  pointwise [vSum]
  simp only [vSub_at hX, exp_coe, sum_exp]

include hX in
theorem vProb_at (i : Fin 16384) (k : Fin 1000) : vProb x (ix2 i k) = (prb (A i) k : EReal) := by
  pointwise [vProb, vSpread]
  rw [vSub_at hX, vSum_at hX, exp_coe, div_coe _ _ (tot_pos _).ne']
  rfl

include hX in
theorem vBest_at (i : Fin 16384) : vMax (vProb x) (ix1 i) = (((tot (A i))⁻¹ : ℝ) : EReal) := by
  pointwise [vMax]
  simp only [vProb_at hX, negInf]
  exact fold_prb _

end Cert.Proof.RI
-- ==== Proof.RArg.lean ====
/-
  The reference's arg-max, over the extended reals: one of its row's pairs, as good as all of them.
-/
module

public import proofs.«01_k».proof.Proof.RefRun
public import Idealize.ShloMosaic.Lib.IdealHost

@[expose] public section

noncomputable section

namespace Cert.Proof.RI

open Cert.ReferenceIdeal Cert.ReferenceIdeal.Gen
open Idealize.ShloMosaic
open scoped BigOperators

/-- A pair is at least as good as another: a larger value, or the same value at no later place. -/
def Good (r p : Ideal .f32 × BitVec 32) : Prop := p.1 < r.1 ∨ p.1 = r.1 ∧ r.2.toInt ≤ p.2.toInt

theorem good_refl (r : Ideal .f32 × BitVec 32) : Good r r := Or.inr ⟨rfl, le_rfl⟩

theorem good_trans {a b c : Ideal .f32 × BitVec 32} (h : Good a b) (h' : Good b c) : Good a c := by
  rcases h with h | ⟨h, e⟩ <;> rcases h' with h' | ⟨h', e'⟩
  · exact Or.inl (h'.trans h)
  · exact Or.inl (h' ▸ h)
  · exact Or.inl (h ▸ h')
  · exact Or.inr ⟨h'.trans h, e.trans e'⟩

/-- One step keeps one of its two pairs, and the one kept is as good as both. -/
theorem step_good (a b : Ideal .f32 × BitVec 32) :
    (reducer_argmax_f32_i32 a b = a ∨ reducer_argmax_f32_i32 a b = b)
      ∧ Good (reducer_argmax_f32_i32 a b) a ∧ Good (reducer_argmax_f32_i32 a b) b := by
  obtain ⟨u, m⟩ := a
  obtain ⟨v, n⟩ := b
  have key : reducer_argmax_f32_i32 (u, m) (v, n)
      = if v < u then (u, m) else if u = v ∧ m.toInt < n.toInt then (v, m) else (v, n) := by
    unfold reducer_argmax_f32_i32
    rcases lt_trichotomy v u with h | h | h
    · simp [Ideal.cmpf_def, Ideal.cmp, IntOp.ori, IntOp.andi, Scalar.select, h, h.ne']
    · subst h
      by_cases hm : m.toInt < n.toInt <;>
        simp [Ideal.cmpf_def, Ideal.cmp, IntOp.ori, IntOp.andi, IntOp.cmpi, Scalar.select, BitVec.slt, hm]
    · simp [Ideal.cmpf_def, Ideal.cmp, IntOp.ori, IntOp.andi, Scalar.select, h.not_gt, h.ne]
  rw [key]
  rcases lt_trichotomy v u with h | h | h
  · rw [if_pos h]
    exact ⟨Or.inl rfl, good_refl _, Or.inl h⟩
  · subst h
    rw [if_neg (lt_irrefl _)]
    by_cases hm : m.toInt < n.toInt
    · rw [if_pos ⟨rfl, hm⟩]
      exact ⟨Or.inl rfl, good_refl _, Or.inr ⟨rfl, hm.le⟩⟩
    · rw [if_neg fun hh => hm hh.2]
      exact ⟨Or.inr rfl, Or.inr ⟨rfl, not_lt.mp hm⟩, good_refl _⟩
  · rw [if_neg h.not_gt, if_neg fun hh => h.ne hh.1]
    exact ⟨Or.inr rfl, Or.inl h, good_refl _⟩

/-- The fold keeps one of the pairs, and it is as good as every one of them. -/
theorem fold_good (L : List (Ideal .f32 × BitVec 32)) : ∀ c : Ideal .f32 × BitVec 32,
    (L.foldl reducer_argmax_f32_i32 c = c ∨ L.foldl reducer_argmax_f32_i32 c ∈ L)
      ∧ Good (L.foldl reducer_argmax_f32_i32 c) c ∧ ∀ p ∈ L, Good (L.foldl reducer_argmax_f32_i32 c) p := by
  induction L with
  | nil => exact fun c => ⟨Or.inl rfl, good_refl _, fun p hp => absurd hp (List.not_mem_nil)⟩
  | cons b L ih =>
    intro c
    obtain ⟨h1, h2, h3⟩ := ih (reducer_argmax_f32_i32 c b)
    obtain ⟨s1, s2, s3⟩ := step_good c b
    rw [List.foldl_cons]
    refine ⟨?_, good_trans h2 s2, fun p hp => ?_⟩
    · rcases h1 with h1 | h1
      · rw [h1]
        rcases s1 with s1 | s1
        · exact Or.inl s1
        · exact Or.inr (by rw [s1]; exact List.mem_cons_self)
      · exact Or.inr (List.mem_cons_of_mem _ h1)
    · rcases List.mem_cons.mp hp with rfl | hp
      · exact good_trans h2 s3
      · exact h3 p hp

theorem mem_fiber {α β : Type} {s t : Shape} {axes : List (Fin s.rank)} (x : s.Idx → α) (y : s.Idx → β) (h : s.ReducesTo axes t)
    (j : t.Idx) (p : α × β) : p ∈ Host.argReduceFiber x y h j ↔ ∃ i, h.drop i = j ∧ (x i, y i) = p := by
  constructor
  · intro hp
    obtain ⟨n, hn, e⟩ := List.mem_map.mp hp
    exact ⟨_, of_decide_eq_true (List.mem_filter.mp hn).2, e⟩
  · rintro ⟨i, hi, e⟩
    refine List.mem_map.mpr ⟨s.rowMajor i, List.mem_filter.mpr ⟨List.mem_finRange _, ?_⟩, ?_⟩
    · rw [Equiv.symm_apply_apply]; exact decide_eq_true hi
    · rw [Equiv.symm_apply_apply]; exact e

/-- The arg-max is one of the pairs of its row, as good as a given one above minus infinity. -/
theorem arg_good {s t u : Shape} {axes : List (Fin s.rank)} (p : s.Idx → Ideal .f32) (y : s.Idx → BitVec 32)
    (a : u.Idx → Ideal .f32) (b : u.Idx → BitVec 32) (h : s.ReducesTo axes t) (hu : 0 < u.numel) (j : t.Idx)
    (ha : ∀ z, a z = (⊥ : EReal)) (i₀ : s.Idx) (hi : h.drop i₀ = j) (h0 : p i₀ ≠ (⊥ : EReal)) :
    ∃ i, h.drop i = j ∧ Host.argReduce reducer_argmax_f32_i32 p y a b h hu j = (p i, y i) ∧ Good (p i, y i) (p i₀, y i₀) := by
  rw [Ideal.argReduce_eq_reduce2, Host.reduce2_eq_foldl_fiber]
  obtain ⟨h1, -, h3⟩ := fold_good (Host.argReduceFiber p y h j) (a (Shape.Idx.first hu), b (Shape.Idx.first hu))
  have hg := h3 _ ((mem_fiber p y h j _).mpr ⟨i₀, hi, rfl⟩)
  rcases h1 with h1 | h1
  · rw [h1] at hg
    rcases hg with hg | ⟨hg, -⟩
    · exact absurd (hg.trans_eq (ha _)) not_lt_bot
    · exact absurd (hg.trans (ha _)) h0
  · obtain ⟨i, hd, e⟩ := (mem_fiber p y h j _).mp h1
    exact ⟨i, hd, e.symm, e ▸ hg⟩

end Cert.Proof.RI
-- ==== Proof.RIdx.lean ====
/-
  The reference's place of the largest entry of a row of reals.
-/
module

public import proofs.«01_k».proof.Proof.RArg
public import proofs.«01_k».proof.Proof.RowMath

@[expose] public section

noncomputable section

namespace Cert.Proof.RI

open Cert.ReferenceIdeal Cert.ReferenceIdeal.Gen
open Idealize.ShloMosaic
open scoped BigOperators
open Cert.Proof.Row

/-! ## The place of the largest probability -/

theorem drop_row (i : Fin 16384) (k : Fin 1000) : reducesTo_S16384x1000_S16384_d1.drop (ix2 i k) = (ix1 i : S16384.Idx) := by
  funext b
  match b with
  | ⟨0, _⟩ => exact Fin.ext (Shape.ReducesTo.drop_apply_val_of_eq reducesTo_S16384x1000_S16384_d1 (ix2 i k) (0 : Fin 1) (0 : Fin 2))

theorem place_toInt (k : Fin 1000) : (BitVec.ofNat 32 k.val).toInt = (k.val : ℤ) := by
  have := k.isLt
  have e : (BitVec.ofNat 32 k.val).toNat = k.val := by rw [BitVec.toNat_ofNat]; omega
  rw [BitVec.toInt_eq_toNat_of_lt (by rw [e]; omega), e]

theorem vIdx_eq {F : FTy → Type} [FloatOps F] (p : Vec F S16384x1000 .f32) : vIdx p = fun j =>
    (Host.argReduce reducer_argmax_f32_i32 p (iotaInDim S16384x1000 32 1) (constant S_ .f32 0xFF800000#32) (constantI S_ 32 0#32)
      reducesTo_S16384x1000_S16384_d1 h_S_ j).2 := by
  delta vIdx
  exact Eq.refl _

/-- The arg-max of reals along a row, given their first place of the largest. -/
theorem vIdx_of (p : Vec Ideal S16384x1000 .f32) (a : Fin 1000 → ℝ) (i : Fin 16384) (hp : ∀ k, p (ix2 i k) = (a k : EReal))
    (k₀ : Fin 1000) (h1 : ∀ k, a k ≤ a k₀) (h0 : ∀ k, a k = a k₀ → k₀ ≤ k) : vIdx p (ix1 i) = BitVec.ofNat 32 k₀.val := by
  have h2 : p (ix2 i k₀) ≠ (⊥ : EReal) := by rw [hp]; exact EReal.coe_ne_bot _
  have h3 := drop_row i k₀
  obtain ⟨y, hd, e, hg⟩ := arg_good (s := S16384x1000) (t := S16384) (u := S_) p (iotaInDim S16384x1000 32 1)
    (constant (F := Ideal) S_ .f32 0xFF800000#32) (constantI S_ 32 0#32)
    reducesTo_S16384x1000_S16384_d1 h_S_ (ix1 i) (fun z => by pointwise; exact negInf) (ix2 i k₀) h3 h2
  rw [vIdx_eq]
  beta_reduce
  rw [e]
  clear e
  obtain ⟨i', k, rfl⟩ : ∃ (i' : Fin 16384) (k : Fin 1000), y = ix2 i' k := ⟨y 0, y 1, eq_ix2 y⟩
  obtain rfl : i' = i := congrFun ((drop_row i' k).symm.trans hd) 0
  have e : ∀ k : Fin 1000, iotaInDim S16384x1000 32 1 (ix2 i' k) = BitVec.ofNat 32 k.val := fun k => by pointwise
  simp only [hp, e] at hg ⊢
  rcases hg with hg | ⟨hg, hk⟩
  · exact absurd (EReal.coe_lt_coe_iff.mp hg) (not_lt.mpr (h1 k))
  · have h2 := Fin.le_def.mp (h0 k (EReal.coe_eq_coe_iff.mp hg).symm)
    simp only [place_toInt] at hk
    have : k.val = k₀.val := by omega
    exact congrArg _ this
end Cert.Proof.RI
-- ==== Proof.RVal.lean ====
/-
  The reference's two results, over the extended reals and finite logits, read at an element.
-/
module

public import proofs.«01_k».proof.Proof.RefMain
public import proofs.«01_k».proof.Proof.RSoft
public import proofs.«01_k».proof.Proof.RIdx
public import Idealize.ShloMosaic.Lib.ReduceAll

@[expose] public section

noncomputable section

namespace Cert.Proof.RI

open Cert.ReferenceIdeal Cert.ReferenceIdeal.Gen
open Idealize.ShloMosaic
open scoped BigOperators
open Cert.Proof.Row

variable {x s : Vec Ideal S16384x1000 .f32} {A B : Fin 16384 → Fin 1000 → ℝ}
  (hX : ∀ i k, x (ix2 i k) = (A i k : EReal)) (hS : ∀ i k, s (ix2 i k) = (B i k : EReal))

include hX in
theorem vIdx_at (i : Fin 16384) : vIdx (vProb x) (ix1 i) = BitVec.ofNat 32 (plc (A i)).val :=
  vIdx_of _ (prb (A i)) i (fun k => vProb_at hX i k) _ (fun k => by rw [prb_plc]; exact prb_le _ _)
    fun k hk => plc_le _ _ ((prb_eq_iff _ _).mp (hk.trans (prb_plc _)))

/-! ## The running values -/

theorem vTau_at (t : Vec Ideal S_ .f32) (mp : Vec Ideal S16384 .f32) (hm : ∀ i, mp (ix1 i) = (((tot (A i))⁻¹ : ℝ) : EReal)) :
    vTau t mp ix0 = tNew A (t ix0) := by
  pointwise [vTau, tNew]
  simp only [hm]

theorem vP_at (q : Vec Ideal S1000 .f32) (p : Vec Ideal S16384x1000 .f32) (hp : ∀ i k, p (ix2 i k) = (prb (A i) k : EReal))
    (c : Fin 1000) : vP q p (ix1 c) = pNew A (fun c => q (ix1 c)) c := by
  pointwise [vP, vC, pNew]
  simp only [hp]

theorem vShare_at (q : Fin 1000 → EReal) (v : Vec Ideal S1000 .f32) (hv : ∀ c, v (ix1 c) = pNew A q c) (c : Fin 1000) :
    vShare v (ix1 c) = Ideal.div (pNew A q c) (pTop A q) := by
  pointwise [vShare, pTop]
  simp only [hv, negInf]

/-! ## The two reads at places -/

theorem gather1_at (sh : Vec Ideal S1000 .f32) (ix : Vec Ideal S16384x1 .i32) (i : Fin 16384) (c : Fin 1000)
    (h : ix (ix2 i 0) = BitVec.ofNat 32 c.val) :
    Host.gather gather_S1000_S16384x1_S16384_n_0_n_n_0_1_1 sh ix (ix1 i) = sh (ix1 c) := by
  unfold Host.gather
  refine congrArg sh (funext fun a => ?_)
  match a with
  | ⟨0, _⟩ =>
    refine Fin.ext ?_
    have e : gather_S1000_S16384x1_S16384_n_0_n_n_0_1_1.siIdx (ix1 i) ⟨0, by decide⟩ = ix2 i 0 := by
      funext b
      match b with
      | ⟨0, _⟩ => exact Fin.ext rfl
      | ⟨1, _⟩ => exact Fin.ext rfl
    show min (ix (gather_S1000_S16384x1_S16384_n_0_n_n_0_1_1.siIdx (ix1 i) ⟨0, _⟩)).toInt.toNat (1000 - 1) + 0 + 0 = c.val
    rw [e, h, place_toInt]
    have := c.isLt
    omega

theorem gather2_at (l : Vec Ideal S16384x1000 .f32) (ix : Vec Ideal S16384x1x1 .i32) (i : Fin 16384) (c : Fin 1000)
    (h : ix (ix3 i 0 0) = BitVec.ofNat 32 c.val) :
    Host.gather gather_S16384x1000_S16384x1x1_S16384x1_n_1_0_0_1_2_11 l ix (ix2 i 0) = l (ix2 i c) := by
  unfold Host.gather
  refine congrArg l (funext fun a => ?_)
  have e : gather_S16384x1000_S16384x1x1_S16384x1_n_1_0_0_1_2_11.siIdx (ix2 i 0) ⟨0, by decide⟩ = ix3 i 0 0 := by
    funext b
    match b with
    | ⟨0, _⟩ => exact Fin.ext rfl
    | ⟨1, _⟩ => exact Fin.ext rfl
    | ⟨2, _⟩ => exact Fin.ext rfl
  match a with
  | ⟨0, _⟩ =>
    refine Fin.ext ?_
    show 0 + i.val + 0 = i.val
    omega
  | ⟨1, _⟩ =>
    refine Fin.ext ?_
    show min (ix (gather_S16384x1000_S16384x1x1_S16384x1_n_1_0_0_1_2_11.siIdx (ix2 i 0) ⟨0, _⟩)).toInt.toNat (1000 - 1) + 0 + 0 = c.val
    rw [e, h, place_toInt]
    have := c.isLt
    omega

/-! ## The mask -/

theorem place_nonneg (c : Fin 1000) : IntOp.cmpi .slt (BitVec.ofNat 32 c.val) 0#32 = 0#1 := by
  have h : ¬ (BitVec.ofNat 32 c.val).slt 0#32 := by
    rw [BitVec.slt_iff_toInt_lt, place_toInt]
    simp
  simp [IntOp.cmpi, h]

theorem vWrap_at (ix : Vec Ideal S16384 .i32) (i : Fin 16384) (c : Fin 1000) (h : ix (ix1 i) = BitVec.ofNat 32 c.val) :
    vWrap (F := Ideal) ix (ix1 i) = BitVec.ofNat 32 c.val := by
  pointwise [vWrap]
  rw [h, place_nonneg]
  simp [Scalar.select]

theorem vMask_at (q : Fin 1000 → EReal) (t : EReal) (mp : Vec Ideal S16384 .f32) (ix : Vec Ideal S16384 .i32)
    (ta : Vec Ideal S_ .f32) (sh : Vec Ideal S1000 .f32) (hm : ∀ i, mp (ix1 i) = (((tot (A i))⁻¹ : ℝ) : EReal))
    (hix : ∀ i, ix (ix1 i) = BitVec.ofNat 32 (plc (A i)).val) (ht : ta ix0 = tNew A t)
    (hsh : ∀ c, sh (ix1 c) = Ideal.div (pNew A q c) (pTop A q)) (i : Fin 16384) :
    vMask mp ix ta sh (ix1 i) = (msk A t q i : EReal) := by
  have hg := gather1_at sh (broadcastInDim S16384x1 ![0] bcast_S16384_S16384x1_0 (vWrap (F := Ideal) ix)) i (plc (A i))
    (by pointwise; exact vWrap_at ix i _ (hix i))
  unfold vMask
  revert hg
  generalize Host.gather gather_S1000_S16384x1_S16384_n_0_n_n_0_1_1 sh _ = g
  intro hg
  pointwise
  rw [hg, hm, hsh, ht]
  unfold msk thr
  split
  · rename_i h
    rw [decide_eq_true h]
    show (((1#1).toNat : ℝ) : EReal) = _
    simp
  · rename_i h
    rw [decide_eq_false h]
    show (((0#1).toNat : ℝ) : EReal) = _
    simp

/-! ## The loss -/

include hX in
theorem vLog_at (i : Fin 16384) (k : Fin 1000) :
    vLog x (ix2 i k) = ((A i k - top (A i) - Real.log (tot (A i)) : ℝ) : EReal) := by
  have h1 := vSub_at hX i k
  have h2 := vSum_at hX i
  unfold vLog
  revert h1 h2
  generalize vSub x = u
  generalize vSum x = v
  intro h1 h2
  pointwise
  rw [h1, h2, log_coe _ (tot_pos _), ← EReal.coe_sub]

theorem vAt_at (ix : Vec Ideal S16384x1 .i32) (i : Fin 16384) (c : Fin 1000) (h : ix (ix2 i 0) = BitVec.ofNat 32 c.val) :
    vAt (F := Ideal) ix (ix3 i 0 0) = BitVec.ofNat 32 c.val := by
  pointwise [vAt]
  rw [h, place_nonneg]
  simp [Scalar.select]

theorem vIn_at (v : Vec Ideal S16384x1x1 .i32) (c : Fin 16384 → Fin 1000) (h : ∀ i, v (ix3 i 0 0) = BitVec.ofNat 32 (c i).val)
    (i : Fin 16384) : vIn (F := Ideal) v (ix2 i 0) = 1#1 := by
  unfold vIn
  refine Host.reduce_andi_one _ _ _ _ _ rfl fun y => ?_
  obtain ⟨a, b, d, rfl⟩ : ∃ (a : Fin 16384) (b d : Fin 1), y = ix3 a b d := ⟨y 0, y 1, y 2, eq_ix3 y⟩
  obtain rfl : b = 0 := Subsingleton.elim _ _
  obtain rfl : d = 0 := Subsingleton.elim _ _
  pointwise
  rw [h]
  have h1 : IntOp.cmpi .sge (BitVec.ofNat 32 (c a).val) 0#32 = 1#1 := by
    have : (0#32).sle (BitVec.ofNat 32 (c a).val) := by
      rw [BitVec.sle_iff_toInt_le, place_toInt]
      simp
    simp [IntOp.cmpi, this]
  have h2 : IntOp.cmpi .sle (BitVec.ofNat 32 (c a).val) 999#32 = 1#1 := by
    have : (BitVec.ofNat 32 (c a).val).sle 999#32 := by
      rw [BitVec.sle_iff_toInt_le, place_toInt]
      have := (c a).isLt
      show ((c a).val : ℤ) ≤ 999
      omega
    simp [IntOp.cmpi, this]
  rw [h1, h2]
  rfl

theorem vTake_at (l : Vec Ideal S16384x1000 .f32) (v : Vec Ideal S16384x1x1 .i32) (c : Fin 16384 → Fin 1000)
    (h : ∀ i, v (ix3 i 0 0) = BitVec.ofNat 32 (c i).val) (i : Fin 16384) : vTake l v (ix2 i 0) = l (ix2 i (c i)) := by
  have h1 := vIn_at v c h i
  have h2 := gather2_at l v i (c i) (h i)
  unfold vTake
  revert h1 h2
  generalize vIn (F := Ideal) v = u
  generalize Host.gather gather_S16384x1000_S16384x1x1_S16384x1_n_1_0_0_1_2_11 l v = g
  intro h1 h2
  pointwise
  rw [h1, h2]
  simp [Scalar.select]

theorem vNll_at (l : Vec Ideal S16384x1000 .f32) (ix : Vec Ideal S16384 .i32)
    (hl : ∀ i k, l (ix2 i k) = ((B i k - top (B i) - Real.log (tot (B i)) : ℝ) : EReal))
    (hix : ∀ i, ix (ix1 i) = BitVec.ofNat 32 (plc (A i)).val) (i : Fin 16384) : vNll l ix (ix1 i) = (nll A B i : EReal) := by
  have h1 := vTake_at l (vAt (F := Ideal) (broadcastInDim S16384x1 ![0] bcast_S16384_S16384x1_0 ix)) (fun i => plc (A i))
    (fun i => vAt_at _ i _ (by pointwise; exact hix i)) i
  unfold vNll
  revert h1
  generalize vTake l _ = g
  intro h1
  pointwise
  rw [h1, hl, ← EReal.coe_neg]
  refine congrArg Real.toEReal ?_
  unfold nll
  ring

theorem vLoss_at (nl mk : Vec Ideal S16384 .f32) (t : EReal) (q : Fin 1000 → EReal)
    (hn : ∀ i, nl (ix1 i) = (nll A B i : EReal)) (hk : ∀ i, mk (ix1 i) = (msk A t q i : EReal)) :
    vLoss nl mk ix0 = (loss A B t q : EReal) := by
  pointwise [vLoss]
  simp only [hn, hk, ← EReal.coe_mul, coe_sum, rowsBits]
  rw [div_coe _ _ (by norm_num)]
  rfl

/-! ## The two results -/

include hX in
theorem refMask_at (t : Vec Ideal S_ .f32) (q : Vec Ideal S1000 .f32) (i : Fin 16384) :
    refMask x t q (ix1 i) = (msk A (t ix0) (fun c => q (ix1 c)) i : EReal) :=
  vMask_at _ _ _ _ _ _ (vBest_at hX) (vIdx_at hX) (vTau_at t _ (vBest_at hX))
    (vShare_at _ _ (vP_at q _ (vProb_at hX))) i

include hX hS in
theorem refLoss_at (t : Vec Ideal S_ .f32) (q : Vec Ideal S1000 .f32) :
    refLoss x s t q ix0 = (loss A B (t ix0) (fun c => q (ix1 c)) : EReal) :=
  vLoss_at _ _ _ _ (vNll_at _ _ (vLog_at hS) (vIdx_at hX)) (refMask_at hX t q)

end Cert.Proof.RI
-- ==== Proof.PreRead.lean ====
/-
  The precondition, read: the logits are reals, and some class's running share is not negative.
-/
module

public import proofs.«01_k».proof.Pre_inputs_ok
public import Idealize.ShloMosaic.Lib.Pointwise
public import Idealize.ShloMosaic.Lib.ReduceAll
public import Idealize.ShloMosaic.Lib.Routing.OpsOrder
public import proofs.«01_k».proof.Proof.RowMath

@[expose] public section

noncomputable section

namespace Cert.Proof.Pre

open Cert.Pre_inputs_ok
open Idealize.ShloMosaic

/-- The shape relations that the precondition takes. -/
instance facts : Cert.Pre_inputs_ok.Facts where
  bcast_S_S16384x1000 := by decide
  reducesTo_S16384x1000_S_d0_1 := by decide
  h_S_ := by decide
  bcast_S_S1000 := by decide
  reducesTo_S1000_S_d0 := by decide

instance : Subsingleton S_.Idx := ⟨fun _ _ => funext fun a => a.elim0⟩

theorem and_one {a b : BitVec 1} (h : IntOp.andi a b = 1#1) : a = 1#1 ∧ b = 1#1 := by
  revert a b
  decide

/-- Finite: a real. -/
theorem real_of (v : EReal) (h : max v (-v) < ⊤) : ∃ r : ℝ, v = (r : EReal) := by
  have h1 : v ≠ ⊤ := fun e => by subst e; simp at h
  have h2 : v ≠ ⊥ := fun e => by subst e; simp at h
  exact ⟨v.toReal, (EReal.coe_toReal h1 h2).symm⟩

theorem all_real (x : Vec Ideal S16384x1000 .f32) (j : S_.Idx)
    (h : Host.reduce IntOp.andi (cmpf .olt (Host.absf x) (broadcastInDim S16384x1000 ![] Facts.bcast_S_S16384x1000
      (constant (F := Ideal) S_ .f32 0x7F800000#32))) (constantI S_ 1 1#1) Facts.reducesTo_S16384x1000_S_d0_1 Facts.h_S_ j = 1#1) :
    ∃ A : Fin 16384 → Fin 1000 → ℝ, ∀ i k, x (ix2 i k) = (A i k : EReal) := by
  have hr : ∀ i k, ∃ r : ℝ, x (ix2 i k) = (r : EReal) := fun i k => by
    have e := Host.reduce_andi_all _ _ _ _ _ h (ix2 i k)
    pointwise at e
    simp only [Ideal.absf_def, Row.posInf] at e
    refine real_of _ ?_
    by_contra hn
    rw [decide_eq_false hn] at e
    exact absurd e (by decide)
  choose A hA using hr
  exact ⟨A, hA⟩

theorem some_nonneg (q : Vec Ideal S1000 .f32) (j : S_.Idx)
    (h : Host.reduce IntOp.ori (cmpf .oge q (broadcastInDim S1000 ![] Facts.bcast_S_S1000
      (constant (F := Ideal) S_ .f32 0x00000000#32))) (constantI S_ 1 0#1) Facts.reducesTo_S1000_S_d0 Facts.h_S_ j = 1#1) :
    ∃ c : Fin 1000, (0 : EReal) ≤ q (ix1 c) := by
  rw [Host.reduce_eq_fold] at h
  obtain ⟨y, -, e⟩ := (Routing.fold_ori _ _).mp h
  obtain ⟨c, rfl⟩ : ∃ c : Fin 1000, y = ix1 c := ⟨y 0, eq_ix1 y⟩
  pointwise at e
  refine ⟨c, ?_⟩
  by_contra hn
  rw [decide_eq_false hn] at e
  exact absurd e (by decide)

/-- The precondition at one device's arguments. -/
theorem read (x s : Vec Ideal S16384x1000 .f32) (t : Vec Ideal S_ .f32) (q l : Vec Ideal S1000 .f32)
    (h : fn (F := Ideal) x s t q l = fun _ => 1#1) :
    (∃ A : Fin 16384 → Fin 1000 → ℝ, ∀ i k, x (ix2 i k) = (A i k : EReal))
      ∧ (∃ B : Fin 16384 → Fin 1000 → ℝ, ∀ i k, s (ix2 i k) = (B i k : EReal)) ∧ ∃ c : Fin 1000, (0 : EReal) ≤ q (ix1 c) := by
  have e := congrFun h ix0
  dsimp only [fn] at e
  obtain ⟨e1, e3⟩ := and_one e
  obtain ⟨e1, e2⟩ := and_one e1
  exact ⟨all_real x _ e1, all_real s _ e2, some_nonneg q _ e3⟩

end Cert.Proof.Pre
-- ==== Proof.Algebraic.lean ====
/-
  The idealized kernel and the idealized reference end with equal results.
-/
module

public import proofs.«01_k».proof.Defs
public import proofs.«01_k».proof.Proof.KVal
public import proofs.«01_k».proof.Proof.RVal
public import proofs.«01_k».proof.Proof.PreRead

@[expose] public section

noncomputable section

namespace Cert.Proof.KI

open Cert.KernelIdeal Cert.KernelIdeal.Gen
open Idealize.ShloMosaic
open Cert.Proof.Row

variable (m : (ℓ : Loc nD τ sig) → Buf (Elt Ideal) ℓ) (d : Dev nD) {A B : Fin 16384 → Fin 1000 → ℝ}
  (hA : ∀ i k, (m (a0Loc d) : Vec Ideal S16384x1000 .f32) (ix2 i k) = (A i k : EReal))
  (hB : ∀ i k, (m (a1Loc d) : Vec Ideal S16384x1000 .f32) (ix2 i k) = (B i k : EReal))
  (hq : ∃ c : Fin 1000, (0 : EReal) ≤ (m (a3Loc d) : Vec Ideal S1000 .f32) (ix1 c))

/-- The threshold that the kernel starts from. -/
abbrev tauOf : EReal := (m (a2Loc d) : Vec Ideal S_ .f32) ix0
/-- The classes' shares that the kernel starts from. -/
abbrev shareOf : Fin 1000 → EReal := fun c => (m (a3Loc d) : Vec Ideal S1000 .f32) (ix1 c)

theorem transpose_at (x : Vec Ideal S16384x1000 .f32) (k : Fin 1000) (i : Fin 16384) :
    transpose S1000x16384 [1, 0] x transposes_S16384x1000_S1000x16384_1_0 (ix2 k i) = x (ix2 i k) := by
  pointwise

include hA in
theorem WTm_at (k : Fin 1000) (i : Fin 16384) : WTm m d (ix2 k i) = (A i k : EReal) := by
  rw [WTm_eq, transpose_at]
  exact hA i k

include hB in
theorem STm_at (k : Fin 1000) (i : Fin 16384) : STm m d (ix2 k i) = (B i k : EReal) := by
  rw [STm_eq, transpose_at]
  exact hB i k

include hA hq in
theorem TBm_at (n : ℕ) (c : Fin 1000) (hn : n = c.val) (h1 : n < 1024) :
    TBm m d (ix1 (⟨n, h1⟩ : Fin 1024)) = thr A (tauOf m d) (shareOf m d) c := by
  have h := tbl_at (WTm_at m d hA) (PTm m d) (TAm m d) (tauOf m d) (fun y => by rw [TAm_eq])
    (by rw [PTm_eq]; exact hq) n c hn h1
  rw [PTm_eq] at h
  exact (congrFun (congrArg (fun p => tblV (WTm m d) p (TAm m d)) (PTm_eq m d)) _).trans h

include hA hq in
theorem MKm_at (i : Fin 16384) : MKm m d (ix1 i) = (msk A (tauOf m d) (shareOf m d) i : EReal) :=
  mkRow_at (mp_at (WTm_at m d hA)) (ix_at (WTm_at m d hA)) (TBm_at m d hA hq) i

include hA hB hq in
theorem LSm_at (y : S_.Idx) : LSm m d y = (loss A B (tauOf m d) (shareOf m d) : EReal) :=
  loss_at (mp_at (WTm_at m d hA)) (ix_at (WTm_at m d hA)) (nl_at (WTm_at m d hA) (STm_at m d hB)) (TBm_at m d hA hq) y

end Cert.Proof.KI

namespace Cert.Proof

open Idealize.ShloMosaic Idealize.SL.Sem

/-- On arguments that the precondition admits, the two values of each result are one. -/
theorem values_eq (m : (ℓ : Loc Cert.KernelIdeal.nD Cert.KernelIdeal.τ Cert.KernelIdeal.sig) → Buf (Elt Ideal) ℓ)
    (d : Dev Cert.KernelIdeal.nD) (x s : Vec Ideal Cert.ReferenceIdeal.S16384x1000 .f32) (t : Vec Ideal Cert.ReferenceIdeal.S_ .f32)
    (q l : Vec Ideal Cert.ReferenceIdeal.S1000 .f32)
    (hx : m (KI.a0Loc d) = x) (hs : m (KI.a1Loc d) = s) (ht : m (KI.a2Loc d) = t) (hq : m (KI.a3Loc d) = q)
    (hp : Cert.Pre_inputs_ok.fn (F := Ideal) x s t q l = fun _ => 1#1) :
    RI.refLoss x s t q = KI.LSm m d ∧ RI.refMask x t q = KI.MKm m d := by
  obtain ⟨⟨A, hA⟩, ⟨B, hB⟩, hc⟩ := Pre.read x s t q l hp
  subst hx hs ht hq
  refine ⟨funext fun y => ?_, funext fun y => ?_⟩
  · obtain rfl : y = ix0 := funext fun a => a.elim0
    exact (RI.refLoss_at hA hB _ _).trans (KI.LSm_at m d hA hB hc ix0).symm
  · obtain ⟨i, rfl⟩ : ∃ i : Fin 16384, y = ix1 i := ⟨y 0, eq_ix1 y⟩
    exact (RI.refMask_at hA _ _ i).trans (KI.MKm_at m d hA hc i).symm

/-- The value claim. -/
theorem algebraic : Cert.algebraic_KernelIdeal_ReferenceIdeal_pre_inputs_ok := fun m ρ m' ρ' hpre hargs => by
  have hv := fun c : Dev Cert.KernelIdeal.nD =>
    values_eq m c _ _ _ _ _ rfl rfl rfl rfl (hpre c)
  refine ⟨fun c => KI.LSm m c, fun c => KI.MKm m c,
    (θ_run Cert.KernelIdeal.defs _ _).mono (fun r h c => ?_) (KI.run_main (F := Ideal) m ρ),
    (θ_run Cert.ReferenceIdeal.defs _ _).mono (fun r h c => ?_) (RI.run_ref (F := Ideal) m' ρ')⟩
  · obtain ⟨h0, h1, h2, h3, h4, h5, h6⟩ := h.1 c
    exact ⟨h5, h6, h0, h1, h2, h3, h4⟩
  · obtain ⟨h5, h6, h⟩ := h.1 c
    obtain ⟨e0, e1, e2, e3, -⟩ := hargs c
    rw [e0, e1, e2, e3] at h5
    rw [e0, e2, e3] at h6
    exact ⟨h5.trans (hv c).1, h6.trans (hv c).2, h⟩

end Cert.Proof
-- ==== Proof.lean ====
/-
  The claims of the certificate, put together.
-/
module

public import proofs.«01_k».proof.Defs
public import proofs.«01_k».proof.Proof.Frames
public import proofs.«01_k».proof.Proof.Algebraic

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Pre.facts,
  frame_kernel, frame_kernelIdeal, fun m ρ _ => frame_kernelIdeal m ρ trivial, frame_reference,
  fun m ρ _ => frame_reference m ρ trivial, trivial, algebraic⟩

end Cert.Proof

end
